-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_kth_apart [hPre_kth_apart : Cert.Pre_kth_apart.Facts] (m : (ℓ : Loc Cert.KernelIdeal.nD Cert.KernelIdeal.τ Cert.KernelIdeal.sig) → Buf (Elt Ideal) ℓ) : Prop :=
  ∀ c : Dev Cert.KernelIdeal.nD,
    (Cert.Pre_kth_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kth_apart [hPre_kth_apart : Cert.Pre_kth_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kth_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_kth_apart [hKernelIdeal : Cert.KernelIdeal.Facts] [hPre_kth_apart : Cert.Pre_kth_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kth_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_kth_apart [hReferenceIdeal : Cert.ReferenceIdeal.Facts] [hPre_kth_apart : Cert.Pre_kth_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kth_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_kth_apart [hKernelIdeal : Cert.KernelIdeal.Facts] [hReferenceIdeal : Cert.ReferenceIdeal.Facts] [hPre_kth_apart : Cert.Pre_kth_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kth_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v110) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_v122) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_kth_apart : Cert.Pre_kth_apart.Facts),
    quiescent_Kernel (hKernel := hKernel)
    ∧ quiescent_KernelIdeal (hKernelIdeal := hKernelIdeal)
    ∧ quiescent_KernelIdeal_pre_kth_apart (hKernelIdeal := hKernelIdeal) (hPre_kth_apart := hPre_kth_apart)
    ∧ quiescent_ReferenceIdeal (hReferenceIdeal := hReferenceIdeal)
    ∧ quiescent_ReferenceIdeal_pre_kth_apart (hReferenceIdeal := hReferenceIdeal) (hPre_kth_apart := hPre_kth_apart)
    ∧ preserves_Kernel_KernelIdeal
    ∧ algebraic_KernelIdeal_ReferenceIdeal_pre_kth_apart (hKernelIdeal := hKernelIdeal) (hReferenceIdeal := hReferenceIdeal) (hPre_kth_apart := hPre_kth_apart)
-- ==== Pre_kth_apart.lean ====
abbrev S128x2048 : Shape := ⟨2, ![128, 2048]⟩
abbrev S2048x1000 : Shape := ⟨2, ![2048, 1000]⟩
abbrev S1000 : Shape := ⟨1, ![1000]⟩
abbrev S3x128x1000 : Shape := ⟨3, ![3, 128, 1000]⟩
abbrev S128x1000 : Shape := ⟨2, ![128, 1000]⟩
abbrev S1x1000 : Shape := ⟨2, ![1, 1000]⟩
abbrev S128x101 : Shape := ⟨2, ![128, 101]⟩
abbrev S128x1 : Shape := ⟨2, ![128, 1]⟩
abbrev S128 : Shape := ⟨1, ![128]⟩
abbrev S_ : Shape := ⟨0, ![]⟩

class Facts : Prop where
  bcast_S1000_S1x1000_1 : S1000.BroadcastsInDim S1x1000 (![1] : Fin 1 → Fin S1x1000.rank)
  bcast_S1x1000_S128x1000_0_1 : S1x1000.BroadcastsInDim S128x1000 (![0, 1] : Fin 2 → Fin S128x1000.rank)
  sliceFits_S128x1000_S128x101 : S128x1000.Slices (fun _ => 0) S128x101
  slices_S128x101_S128x1_0_99 : S128x101.Slices ![0, 99] S128x1
  shapeCasts_S128x1_S128 : S128x1.ShapeCasts S128
  slices_S128x101_S128x1_0_100 : S128x101.Slices ![0, 100] S128x1
  bcast_S_S128 : S_.BroadcastsInDim S128 (![] : Fin 0 → Fin S128.rank)
  dot_S128x2048_S2048x1000_S128x1000_1_0_0_1_n_n_wf : DotDims.WF S128x2048 S2048x1000 S128x1000 [1] [0] [0] [1] [] []

variable [Facts]

def dot_S128x2048_S2048x1000_S128x1000_1_0_0_1_n_n : DotDims S128x2048 S2048x1000 S128x1000 where
  lhsContracting := [1]
  rhsContracting := [0]
  lhsNonContracting := [0]
  rhsNonContracting := [1]
  lhsBatch := []
  rhsBatch := []
  wf := dot_S128x2048_S2048x1000_S128x1000_1_0_0_1_n_n_wf
def fn_part2 {F : FTy → Type} [FloatOps F] (main_arg6 : FVec F S1000 .f32) (main_v36 : IVec S128 1) (main_v37 : FVec F S128x1000 .f32) : IVec S128 1 :=
  let main_v38 : FVec F S1x1000 .f32 := broadcastInDim S1x1000 ![1] bcast_S1000_S1x1000_1 main_arg6
  let main_v39 : FVec F S128x1000 .f32 := broadcastInDim S128x1000 ![0, 1] bcast_S1x1000_S128x1000_0_1 main_v38
  let main_v40 : FVec F S128x1000 .f32 := addf main_v37 main_v39
  let main_values_7 : FVec F S128x101 .f32 := (fun x => (Host.topK S128x101 1 (FloatOps.cmpfTotal .gt) x sliceFits_S128x1000_S128x101).1) main_v40
  let main_indices_8 : IVec S128x101 32 := (fun x => (Host.topK S128x101 1 (FloatOps.cmpfTotal .gt) x sliceFits_S128x1000_S128x101).2) main_v40
  let main_v41 : FVec F S128x1 .f32 := (extractStridedSlice S128x1 ![0, 99] · slices_S128x101_S128x1_0_99) main_values_7
  let main_v42 : FVec F S128 .f32 := shapeCast S128 main_v41 shapeCasts_S128x1_S128
  let main_v43 : FVec F S128x1 .f32 := (extractStridedSlice S128x1 ![0, 100] · slices_S128x101_S128x1_0_100) main_values_7
  let main_v44 : FVec F S128 .f32 := shapeCast S128 main_v43 shapeCasts_S128x1_S128
  let main_v45 : FVec F S128 .f32 := Host.absf main_v42
  let main_cst_9 : FVec F S_ .f32 := constant S_ .f32 0x7F000000#32
  let main_v46 : FVec F S128 .f32 := broadcastInDim S128 ![] bcast_S_S128 main_cst_9
  let main_v47 : IVec S128 1 := cmpf .ole main_v45 main_v46
  let main_cst_10 : FVec F S_ .f32 := constant S_ .f32 0x00800000#32
  let main_v48 : FVec F S128 .f32 := broadcastInDim S128 ![] bcast_S_S128 main_cst_10
  let main_v49 : FVec F S128 .f32 := maximumf main_v45 main_v48
  let main_cst_11 : FVec F S_ .f32 := constant S_ .f32 0x34800000#32
  let main_v50 : FVec F S128 .f32 := broadcastInDim S128 ![] bcast_S_S128 main_cst_11
  let main_v51 : FVec F S128 .f32 := mulf main_v50 main_v49
  let main_v52 : FVec F S128 .f32 := subf main_v42 main_v51
  let main_v53 : IVec S128 1 := cmpf .olt main_v44 main_v52
  let main_v54 : IVec S128 1 := andi main_v47 main_v53
  let main_v55 : IVec S128 1 := andi main_v36 main_v54
  main_v55

def fn_part1 {F : FTy → Type} [FloatOps F] (main_arg0 : FVec F S128x2048 .f32) (main_arg4 : FVec F S1000 .f32) (main_arg5 : FVec F S2048x1000 .f32) (main_arg6 : FVec F S1000 .f32) (main_v17 : IVec S128 1) (main_v18 : FVec F S128x1000 .f32) : IVec S128 1 :=
  let main_v19 : FVec F S1x1000 .f32 := broadcastInDim S1x1000 ![1] bcast_S1000_S1x1000_1 main_arg4
  let main_v20 : FVec F S128x1000 .f32 := broadcastInDim S128x1000 ![0, 1] bcast_S1x1000_S128x1000_0_1 main_v19
  let main_v21 : FVec F S128x1000 .f32 := addf main_v18 main_v20
  let main_values_2 : FVec F S128x101 .f32 := (fun x => (Host.topK S128x101 1 (FloatOps.cmpfTotal .gt) x sliceFits_S128x1000_S128x101).1) main_v21
  let main_indices_3 : IVec S128x101 32 := (fun x => (Host.topK S128x101 1 (FloatOps.cmpfTotal .gt) x sliceFits_S128x1000_S128x101).2) main_v21
  let main_v22 : FVec F S128x1 .f32 := (extractStridedSlice S128x1 ![0, 99] · slices_S128x101_S128x1_0_99) main_values_2
  let main_v23 : FVec F S128 .f32 := shapeCast S128 main_v22 shapeCasts_S128x1_S128
  let main_v24 : FVec F S128x1 .f32 := (extractStridedSlice S128x1 ![0, 100] · slices_S128x101_S128x1_0_100) main_values_2
  let main_v25 : FVec F S128 .f32 := shapeCast S128 main_v24 shapeCasts_S128x1_S128
  let main_v26 : FVec F S128 .f32 := Host.absf main_v23
  let main_cst_4 : FVec F S_ .f32 := constant S_ .f32 0x7F000000#32
  let main_v27 : FVec F S128 .f32 := broadcastInDim S128 ![] bcast_S_S128 main_cst_4
  let main_v28 : IVec S128 1 := cmpf .ole main_v26 main_v27
  let main_cst_5 : FVec F S_ .f32 := constant S_ .f32 0x00800000#32
  let main_v29 : FVec F S128 .f32 := broadcastInDim S128 ![] bcast_S_S128 main_cst_5
  let main_v30 : FVec F S128 .f32 := maximumf main_v26 main_v29
  let main_cst_6 : FVec F S_ .f32 := constant S_ .f32 0x34800000#32
  let main_v31 : FVec F S128 .f32 := broadcastInDim S128 ![] bcast_S_S128 main_cst_6
  let main_v32 : FVec F S128 .f32 := mulf main_v31 main_v30
  let main_v33 : FVec F S128 .f32 := subf main_v23 main_v32
  let main_v34 : IVec S128 1 := cmpf .olt main_v25 main_v33
  let main_v35 : IVec S128 1 := andi main_v28 main_v34
  let main_v36 : IVec S128 1 := andi main_v17 main_v35
  let main_v37 : FVec F S128x1000 .f32 := (fun l r => Host.dotGeneral dot_S128x2048_S2048x1000_S128x1000_1_0_0_1_n_n none l r) main_arg0 main_arg5
  fn_part2 (F := F) main_arg6 main_v36 main_v37

def fn {F : FTy → Type} [FloatOps F] (main_arg0 : FVec F S128x2048 .f32) (main_arg1 : FVec F S2048x1000 .f32) (main_arg2 : FVec F S1000 .f32) (main_arg3 : FVec F S2048x1000 .f32) (main_arg4 : FVec F S1000 .f32) (main_arg5 : FVec F S2048x1000 .f32) (main_arg6 : FVec F S1000 .f32) (main_arg7 : FVec F S3x128x1000 .f32) : IVec S128 1 :=
  let main_v0 : FVec F S128x1000 .f32 := (fun l r => Host.dotGeneral dot_S128x2048_S2048x1000_S128x1000_1_0_0_1_n_n none l r) main_arg0 main_arg1
  let main_v1 : FVec F S1x1000 .f32 := broadcastInDim S1x1000 ![1] bcast_S1000_S1x1000_1 main_arg2
  let main_v2 : FVec F S128x1000 .f32 := broadcastInDim S128x1000 ![0, 1] bcast_S1x1000_S128x1000_0_1 main_v1
  let main_v3 : FVec F S128x1000 .f32 := addf main_v0 main_v2
  let main_values : FVec F S128x101 .f32 := (fun x => (Host.topK S128x101 1 (FloatOps.cmpfTotal .gt) x sliceFits_S128x1000_S128x101).1) main_v3
  let main_indices : IVec S128x101 32 := (fun x => (Host.topK S128x101 1 (FloatOps.cmpfTotal .gt) x sliceFits_S128x1000_S128x101).2) main_v3
  let main_v4 : FVec F S128x1 .f32 := (extractStridedSlice S128x1 ![0, 99] · slices_S128x101_S128x1_0_99) main_values
  let main_v5 : FVec F S128 .f32 := shapeCast S128 main_v4 shapeCasts_S128x1_S128
  let main_v6 : FVec F S128x1 .f32 := (extractStridedSlice S128x1 ![0, 100] · slices_S128x101_S128x1_0_100) main_values
  let main_v7 : FVec F S128 .f32 := shapeCast S128 main_v6 shapeCasts_S128x1_S128
  let main_v8 : FVec F S128 .f32 := Host.absf main_v5
  let main_cst : FVec F S_ .f32 := constant S_ .f32 0x7F000000#32
  let main_v9 : FVec F S128 .f32 := broadcastInDim S128 ![] bcast_S_S128 main_cst
  let main_v10 : IVec S128 1 := cmpf .ole main_v8 main_v9
  let main_cst_0 : FVec F S_ .f32 := constant S_ .f32 0x00800000#32
  let main_v11 : FVec F S128 .f32 := broadcastInDim S128 ![] bcast_S_S128 main_cst_0
  let main_v12 : FVec F S128 .f32 := maximumf main_v8 main_v11
  let main_cst_1 : FVec F S_ .f32 := constant S_ .f32 0x34800000#32
  let main_v13 : FVec F S128 .f32 := broadcastInDim S128 ![] bcast_S_S128 main_cst_1
  let main_v14 : FVec F S128 .f32 := mulf main_v13 main_v12
  let main_v15 : FVec F S128 .f32 := subf main_v5 main_v14
  let main_v16 : IVec S128 1 := cmpf .olt main_v7 main_v15
  let main_v17 : IVec S128 1 := andi main_v10 main_v16
  let main_v18 : FVec F S128x1000 .f32 := (fun l r => Host.dotGeneral dot_S128x2048_S2048x1000_S128x1000_1_0_0_1_n_n none l r) main_arg0 main_arg3
  fn_part1 (F := F) main_arg0 main_arg4 main_arg5 main_arg6 main_v17 main_v18
-- ==== Kernel.lean ====
abbrev S128x2048 : Shape := ⟨2, ![128, 2048]⟩
abbrev S2048x1000 : Shape := ⟨2, ![2048, 1000]⟩
abbrev S1000 : Shape := ⟨1, ![1000]⟩
abbrev S3x128x1000 : Shape := ⟨3, ![3, 128, 1000]⟩
abbrev S1x1000 : Shape := ⟨2, ![1, 1000]⟩
abbrev S3x1000 : Shape := ⟨2, ![3, 1000]⟩
abbrev S3x1x1000 : Shape := ⟨3, ![3, 1, 1000]⟩
abbrev S128x1000 : Shape := ⟨2, ![128, 1000]⟩
abbrev S128x1 : Shape := ⟨2, ![128, 1]⟩
abbrev S3x2048x1000 : Shape := ⟨3, ![3, 2048, 1000]⟩
abbrev S4 : Shape := ⟨1, ![4]⟩
abbrev S1 : Shape := ⟨1, ![1]⟩
abbrev S_ : Shape := ⟨0, ![]⟩
abbrev S1x2048x1000 : Shape := ⟨3, ![1, 2048, 1000]⟩
abbrev S1x1x1000 : Shape := ⟨3, ![1, 1, 1000]⟩
abbrev S1x128x1000 : Shape := ⟨3, ![1, 128, 1000]⟩
abbrev S128 : Shape := ⟨1, ![128]⟩

abbrev nBuf : Space → Nat
  | .hbm => 22
  | .vmem => 10
  | .smem => 0
  | _ => 0

abbrev bufTy : (tb : Table) → Fin (tcTables nBuf tb) → BufTy
  | .hbm, ⟨0, _⟩ => ⟨S128x2048, .f32⟩
  | .hbm, ⟨1, _⟩ => ⟨S2048x1000, .f32⟩
  | .hbm, ⟨2, _⟩ => ⟨S1000, .f32⟩
  | .hbm, ⟨3, _⟩ => ⟨S2048x1000, .f32⟩
  | .hbm, ⟨4, _⟩ => ⟨S1000, .f32⟩
  | .hbm, ⟨5, _⟩ => ⟨S2048x1000, .f32⟩
  | .hbm, ⟨6, _⟩ => ⟨S1000, .f32⟩
  | .hbm, ⟨7, _⟩ => ⟨S3x128x1000, .f32⟩
  | .hbm, ⟨8, _⟩ => ⟨S1x1000, .f32⟩
  | .hbm, ⟨9, _⟩ => ⟨S1x1000, .f32⟩
  | .hbm, ⟨10, _⟩ => ⟨S1x1000, .f32⟩
  | .hbm, ⟨11, _⟩ => ⟨S3x1000, .f32⟩
  | .hbm, ⟨12, _⟩ => ⟨S3x1x1000, .f32⟩
  | .hbm, ⟨13, _⟩ => ⟨S128x1000, .f32⟩
  | .hbm, ⟨14, _⟩ => ⟨S128x1000, .f32⟩
  | .hbm, ⟨15, _⟩ => ⟨S128x1000, .f32⟩
  | .hbm, ⟨16, _⟩ => ⟨S128x1, .i32⟩
  | .hbm, ⟨17, _⟩ => ⟨S128x1, .i32⟩
  | .hbm, ⟨18, _⟩ => ⟨S128x1, .i32⟩
  | .hbm, ⟨19, _⟩ => ⟨S128, .i32⟩
  | .hbm, ⟨20, _⟩ => ⟨S128, .i32⟩
  | .hbm, ⟨21, _⟩ => ⟨S128, .i32⟩
  | .local _ .vmem, ⟨0, _⟩ => ⟨S128x2048, .f32⟩
  | .local _ .vmem, ⟨1, _⟩ => ⟨S3x1x1000, .f32⟩
  | .local _ .vmem, ⟨2, _⟩ => ⟨S128x1000, .f32⟩
  | .local _ .vmem, ⟨3, _⟩ => ⟨S128x1000, .f32⟩
  | .local _ .vmem, ⟨4, _⟩ => ⟨S128x1000, .f32⟩
  | .local _ .vmem, ⟨5, _⟩ => ⟨S128x1, .i32⟩
  | .local _ .vmem, ⟨6, _⟩ => ⟨S128x1, .i32⟩
  | .local _ .vmem, ⟨7, _⟩ => ⟨S128x1, .i32⟩
  | .local _ .vmem, ⟨8, _⟩ => ⟨S3x2048x1000, .f32⟩
  | .local _ .vmem, ⟨9, _⟩ => ⟨S3x128x1000, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x2048 : Shape := ⟨2, ![128, 2048]⟩
abbrev S2048x1000 : Shape := ⟨2, ![2048, 1000]⟩
abbrev S1000 : Shape := ⟨1, ![1000]⟩
abbrev S3x128x1000 : Shape := ⟨3, ![3, 128, 1000]⟩
abbrev S128x1000 : Shape := ⟨2, ![128, 1000]⟩
abbrev S1x1000 : Shape := ⟨2, ![1, 1000]⟩
abbrev S128x100 : Shape := ⟨2, ![128, 100]⟩
abbrev S_ : Shape := ⟨0, ![]⟩
abbrev S128 : Shape := ⟨1, ![128]⟩
abbrev S128x1 : Shape := ⟨2, ![128, 1]⟩
abbrev S128x100x1 : Shape := ⟨3, ![128, 100, 1]⟩
abbrev S128x100x2 : Shape := ⟨3, ![128, 100, 2]⟩
abbrev S1x128x1000 : Shape := ⟨3, ![1, 128, 1000]⟩

abbrev nBuf : Space → Nat
  | .hbm => 179
  | .vmem => 0
  | .smem => 0
  | _ => 0

abbrev hbmTy0_0 (i : Nat) : BufTy := match i % 128 with
  | 0 => ⟨S128x2048, .f32⟩
  | 1 => ⟨S2048x1000, .f32⟩
  | 2 => ⟨S1000, .f32⟩
  | 3 => ⟨S2048x1000, .f32⟩
  | 4 => ⟨S1000, .f32⟩
  | 5 => ⟨S2048x1000, .f32⟩
  | 6 => ⟨S1000, .f32⟩
  | 7 => ⟨S3x128x1000, .f32⟩
  | 8 => ⟨S128x1000, .f32⟩
  | 9 => ⟨S1x1000, .f32⟩
  | 10 => ⟨S128x1000, .f32⟩
  | 11 => ⟨S128x1000, .f32⟩
  | 12 => ⟨S128x100, .f32⟩
  | 13 => ⟨S128x100, .i32⟩
  | 14 => ⟨S_, .f32⟩
  | 15 => ⟨S128x1000, .f32⟩
  | 16 => ⟨S128, .i32⟩
  | 17 => ⟨S128x1, .i32⟩
  | 18 => ⟨S_, .i32⟩
  | 19 => ⟨S128x1, .i32⟩
  | 20 => ⟨S128x1, .i1⟩
  | 21 => ⟨S_, .i32⟩
  | 22 => ⟨S128x1, .i32⟩
  | 23 => ⟨S128x1, .i32⟩
  | 24 => ⟨S128x1, .i32⟩
  | 25 => ⟨S_, .i32⟩
  | 26 => ⟨S128x100, .i32⟩
  | 27 => ⟨S128x100, .i1⟩
  | 28 => ⟨S_, .i32⟩
  | 29 => ⟨S128x100, .i32⟩
  | 30 => ⟨S128x100, .i32⟩
  | 31 => ⟨S128x100, .i32⟩
  | 32 => ⟨S128x100, .i32⟩
  | 33 => ⟨S128x100x1, .i32⟩
  | 34 => ⟨S128x100x1, .i32⟩
  | 35 => ⟨S128x100x2, .i32⟩
  | 36 => ⟨S128x1000, .f32⟩
  | 37 => ⟨S128x1000, .f32⟩
  | 38 => ⟨S1x1000, .f32⟩
  | 39 => ⟨S128x1000, .f32⟩
  | 40 => ⟨S128x1000, .f32⟩
  | 41 => ⟨S128x100, .f32⟩
  | 42 => ⟨S128x100, .i32⟩
  | 43 => ⟨S_, .f32⟩
  | 44 => ⟨S128x1000, .f32⟩
  | 45 => ⟨S128, .i32⟩
  | 46 => ⟨S128x1, .i32⟩
  | 47 => ⟨S_, .i32⟩
  | 48 => ⟨S128x1, .i32⟩
  | 49 => ⟨S128x1, .i1⟩
  | 50 => ⟨S_, .i32⟩
  | 51 => ⟨S128x1, .i32⟩
  | 52 => ⟨S128x1, .i32⟩
  | 53 => ⟨S128x1, .i32⟩
  | 54 => ⟨S_, .i32⟩
  | 55 => ⟨S128x100, .i32⟩
  | 56 => ⟨S128x100, .i1⟩
  | 57 => ⟨S_, .i32⟩
  | 58 => ⟨S128x100, .i32⟩
  | 59 => ⟨S128x100, .i32⟩
  | 60 => ⟨S128x100, .i32⟩
  | 61 => ⟨S128x100, .i32⟩
  | 62 => ⟨S128x100x1, .i32⟩
  | 63 => ⟨S128x100x1, .i32⟩
  | 64 => ⟨S128x100x2, .i32⟩
  | 65 => ⟨S128x1000, .f32⟩
  | 66 => ⟨S128x1000, .f32⟩
  | 67 => ⟨S1x1000, .f32⟩
  | 68 => ⟨S128x1000, .f32⟩
  | 69 => ⟨S128x1000, .f32⟩
  | 70 => ⟨S128x100, .f32⟩
  | 71 => ⟨S128x100, .i32⟩
  | 72 => ⟨S_, .f32⟩
  | 73 => ⟨S128x1000, .f32⟩
  | 74 => ⟨S128, .i32⟩
  | 75 => ⟨S128x1, .i32⟩
  | 76 => ⟨S_, .i32⟩
  | 77 => ⟨S128x1, .i32⟩
  | 78 => ⟨S128x1, .i1⟩
  | 79 => ⟨S_, .i32⟩
  | 80 => ⟨S128x1, .i32⟩
  | 81 => ⟨S128x1, .i32⟩
  | 82 => ⟨S128x1, .i32⟩
  | 83 => ⟨S_, .i32⟩
  | 84 => ⟨S128x100, .i32⟩
  | 85 => ⟨S128x100, .i1⟩
  | 86 => ⟨S_, .i32⟩
  | 87 => ⟨S128x100, .i32⟩
  | 88 => ⟨S128x100, .i32⟩
  | 89 => ⟨S128x100, .i32⟩
  | 90 => ⟨S128x100, .i32⟩
  | 91 => ⟨S128x100x1, .i32⟩
  | 92 => ⟨S128x100x1, .i32⟩
  | 93 => ⟨S128x100x2, .i32⟩
  | 94 => ⟨S128x1000, .f32⟩
  | 95 => ⟨S_, .f32⟩
  | 96 => ⟨S128x1000, .f32⟩
  | 97 => ⟨S128x1000, .f32⟩
  | 98 => ⟨S_, .f32⟩
  | 99 => ⟨S128, .f32⟩
  | 100 => ⟨S_, .f32⟩
  | 101 => ⟨S128, .f32⟩
  | 102 => ⟨S128, .f32⟩
  | 103 => ⟨S128x1, .f32⟩
  | 104 => ⟨S128x1000, .f32⟩
  | 105 => ⟨S128x1000, .f32⟩
  | 106 => ⟨S128x1000, .f32⟩
  | 107 => ⟨S_, .f32⟩
  | 108 => ⟨S128, .f32⟩
  | 109 => ⟨S128x1, .f32⟩
  | 110 => ⟨S128x1000, .f32⟩
  | 111 => ⟨S128x1000, .f32⟩
  | 112 => ⟨S_, .f32⟩
  | 113 => ⟨S128x1000, .f32⟩
  | 114 => ⟨S128x1000, .f32⟩
  | 115 => ⟨S_, .f32⟩
  | 116 => ⟨S128, .f32⟩
  | 117 => ⟨S_, .f32⟩
  | 118 => ⟨S128, .f32⟩
  | 119 => ⟨S128, .f32⟩
  | 120 => ⟨S128x1, .f32⟩
  | 121 => ⟨S128x1000, .f32⟩
  | 122 => ⟨S128x1000, .f32⟩
  | 123 => ⟨S128x1000, .f32⟩
  | 124 => ⟨S_, .f32⟩
  | 125 => ⟨S128, .f32⟩
  | 126 => ⟨S128x1, .f32⟩
  | 127 => ⟨S128x1000, .f32⟩
  | _ => ⟨S128x2048, .f32⟩

abbrev hbmTy0_1 (i : Nat) : BufTy := match i % 128 with
  | 0 => ⟨S128x1000, .f32⟩
  | 1 => ⟨S_, .f32⟩
  | 2 => ⟨S128x1000, .f32⟩
  | 3 => ⟨S128x1000, .f32⟩
  | 4 => ⟨S_, .f32⟩
  | 5 => ⟨S128, .f32⟩
  | 6 => ⟨S_, .f32⟩
  | 7 => ⟨S128, .f32⟩
  | 8 => ⟨S128, .f32⟩
  | 9 => ⟨S128x1, .f32⟩
  | 10 => ⟨S128x1000, .f32⟩
  | 11 => ⟨S128x1000, .f32⟩
  | 12 => ⟨S128x1000, .f32⟩
  | 13 => ⟨S_, .f32⟩
  | 14 => ⟨S128, .f32⟩
  | 15 => ⟨S128x1, .f32⟩
  | 16 => ⟨S128x1000, .f32⟩
  | 17 => ⟨S128x1000, .f32⟩
  | 18 => ⟨S1x128x1000, .f32⟩
  | 19 => ⟨S128x1000, .f32⟩
  | 20 => ⟨S_, .f32⟩
  | 21 => ⟨S128x1000, .f32⟩
  | 22 => ⟨S128x1000, .f32⟩
  | 23 => ⟨S128x1000, .f32⟩
  | 24 => ⟨S128x1000, .i32⟩
  | 25 => ⟨S_, .f32⟩
  | 26 => ⟨S_, .i32⟩
  | 27 => ⟨S128, .f32⟩
  | 28 => ⟨S128, .i32⟩
  | 29 => ⟨S1x128x1000, .f32⟩
  | 30 => ⟨S128x1000, .f32⟩
  | 31 => ⟨S_, .f32⟩
  | 32 => ⟨S128x1000, .f32⟩
  | 33 => ⟨S128x1000, .f32⟩
  | 34 => ⟨S128x1000, .f32⟩
  | 35 => ⟨S128x1000, .i32⟩
  | 36 => ⟨S_, .f32⟩
  | 37 => ⟨S_, .i32⟩
  | 38 => ⟨S128, .f32⟩
  | 39 => ⟨S128, .i32⟩
  | 40 => ⟨S1x128x1000, .f32⟩
  | 41 => ⟨S128x1000, .f32⟩
  | 42 => ⟨S_, .f32⟩
  | 43 => ⟨S128x1000, .f32⟩
  | 44 => ⟨S128x1000, .f32⟩
  | 45 => ⟨S128x1000, .f32⟩
  | 46 => ⟨S128x1000, .i32⟩
  | 47 => ⟨S_, .f32⟩
  | 48 => ⟨S_, .i32⟩
  | 49 => ⟨S128, .f32⟩
  | 50 => ⟨S128, .i32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_values : Ref sig .tc := ⟨.hbm, 12, rfl⟩
abbrev main_indices : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_values_3 : Ref sig .tc := ⟨.hbm, 41, rfl⟩
abbrev main_indices_4 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_values_10 : Ref sig .tc := ⟨.hbm, 70, rfl⟩
abbrev main_indices_11 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_13 : Ref sig .tc := ⟨.hbm, 76, rfl⟩
abbrev main_v51 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_15 : Ref sig .tc := ⟨.hbm, 83, rfl⟩
abbrev main_v56 : Ref sig .tc := ⟨.hbm, 84, rfl⟩
abbrev main_v57 : Ref sig .tc := ⟨.hbm, 85, rfl⟩
abbrev main_c_16 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_cst_18 : Ref sig .tc := ⟨.hbm, 98, rfl⟩
abbrev main_v68 : Ref sig .tc := ⟨.hbm, 99, rfl⟩
abbrev main_cst_19 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_21 : Ref sig .tc := ⟨.hbm, 112, rfl⟩
abbrev main_v79 : Ref sig .tc := ⟨.hbm, 113, rfl⟩
abbrev main_v80 : Ref sig .tc := ⟨.hbm, 114, rfl⟩
abbrev main_cst_22 : Ref sig .tc := ⟨.hbm, 115, rfl⟩
abbrev main_v81 : Ref sig .tc := ⟨.hbm, 116, rfl⟩
abbrev main_cst_23 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_24 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_25 : Ref sig .tc := ⟨.hbm, 129, rfl⟩
abbrev main_v92 : Ref sig .tc := ⟨.hbm, 130, rfl⟩
abbrev main_v93 : Ref sig .tc := ⟨.hbm, 131, rfl⟩
abbrev main_cst_26 : Ref sig .tc := ⟨.hbm, 132, rfl⟩
abbrev main_v94 : Ref sig .tc := ⟨.hbm, 133, rfl⟩
abbrev main_cst_27 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_28 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_29 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_call0_v0 : Ref sig .tc := ⟨.hbm, 152, rfl⟩
abbrev main_call0_cst : Ref sig .tc := ⟨.hbm, 153, rfl⟩
abbrev main_call0_c : Ref sig .tc := ⟨.hbm, 154, rfl⟩
abbrev main_call0_v1_0 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_30 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_call1_v0 : Ref sig .tc := ⟨.hbm, 163, rfl⟩
abbrev main_call1_cst : Ref sig .tc := ⟨.hbm, 164, rfl⟩
abbrev main_call1_c : Ref sig .tc := ⟨.hbm, 165, rfl⟩
abbrev main_call1_v1_0 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_31 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_call2_v0 : Ref sig .tc := ⟨.hbm, 174, rfl⟩
abbrev main_call2_cst : Ref sig .tc := ⟨.hbm, 175, rfl⟩
abbrev main_call2_c : Ref sig .tc := ⟨.hbm, 176, rfl⟩
abbrev main_call2_v1_0 : Ref sig .tc := ⟨.hbm, 177, rfl⟩
abbrev main_v122 : Ref sig .tc := ⟨.hbm, 178, rfl⟩

abbrev nD : Nat := 1
abbrev τ : Topo := Topo.v7x

variable {F : FTy → Type} [FloatOps F]
-- ==== Proof.KernelFrame.lean ====
/- The frame of the kernel over words: every run of it ends, leaves the arguments as they were and every
   semaphore at zero. What the kernel leaves in its results is not said here. -/
module

public import proofs.«01_k».proof.Proof.Gen.Kernel.Frame
public import proofs.«01_k».proof.Proof.Gen.Kernel.Skeleton
public import Idealize.ShloMosaic.Lib.Pipeline.FrameSuffixR
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- @main around the region, at any variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers the lines after the region WRITE, as references: results computed from contents the run does not name
    (an operand the body wrote by its own DMA, or a forgotten output), so nothing is stated of them either. -/
def T0 : Finset (Ref sig .tc) := {main_v6, main_v7, main_v8}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-! ## The windows' blocks -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S128x2048 .f32 := win0_0.stage (cfg0.slots t 0)

abbrev hs0_0 (t : Fin cfg0.N) : (ms0_0 t).IsWhole := hstage0_0 0

abbrev ms0_1 (t : Fin cfg0.N) : Memref sig .tc .vmem S3x1x1000 .f32 := win0_1.stage (cfg0.slots t 1)

abbrev hs0_1 (t : Fin cfg0.N) : (ms0_1 t).IsWhole := hstage0_1 0

abbrev ms0_2 (t : Fin cfg0.N) : Memref sig .tc .vmem S128x1000 .f32 := win0_2.stage (cfg0.slots t 2)

abbrev hs0_2 (t : Fin cfg0.N) : (ms0_2 t).IsWhole := hstage0_2 0

abbrev ms0_3 (t : Fin cfg0.N) : Memref sig .tc .vmem S128x1000 .f32 := win0_3.stage (cfg0.slots t 3)

abbrev hs0_3 (t : Fin cfg0.N) : (ms0_3 t).IsWhole := hstage0_3 0

abbrev ms0_4 (t : Fin cfg0.N) : Memref sig .tc .vmem S128x1000 .f32 := win0_4.stage (cfg0.slots t 4)

abbrev hs0_4 (t : Fin cfg0.N) : (ms0_4 t).IsWhole := hstage0_4 0

abbrev ms0_5 (t : Fin cfg0.N) : Memref sig .tc .vmem S128x1 .i32 := win0_5.stage (cfg0.slots t 5)

abbrev hs0_5 (t : Fin cfg0.N) : (ms0_5 t).IsWhole := hstage0_5 0

abbrev ms0_6 (t : Fin cfg0.N) : Memref sig .tc .vmem S128x1 .i32 := win0_6.stage (cfg0.slots t 6)

abbrev hs0_6 (t : Fin cfg0.N) : (ms0_6 t).IsWhole := hstage0_6 0

abbrev ms0_7 (t : Fin cfg0.N) : Memref sig .tc .vmem S128x1 .i32 := win0_7.stage (cfg0.slots t 7)

abbrev hs0_7 (t : Fin cfg0.N) : (ms0_7 t).IsWhole := hstage0_7 0

/-- The scratch operands: whole scoped buffers of the kernel's own, passed beside the windows. -/
abbrev scM0_0 : Memref sig .tc .vmem S3x2048x1000 .f32 := Memref.whole cc0_scratch0

abbrev scM0_1 : Memref sig .tc .vmem S3x128x1000 .f32 := Memref.whole cc0_scratch1

/-- The operands left in HBM that the body copies into scratch itself, whole. -/
abbrev hbM0_0 : Memref sig .tc .hbm S2048x1000 .f32 := Memref.whole main_arg1

abbrev hbM0_1 : Memref sig .tc .hbm S2048x1000 .f32 := Memref.whole main_arg3

abbrev hbM0_2 : Memref sig .tc .hbm S2048x1000 .f32 := Memref.whole main_arg5

abbrev hbM0_3 : Memref sig .tc .hbm S3x128x1000 .f32 := Memref.whole main_arg7

/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))

abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 8, SemLoc.dma 9, SemLoc.dma 10, SemLoc.dma 11] : Fin 4 → SemLoc sig) j

theorem ownSemFacts0 : Pipeline.OwnSemFacts spec0 osem0 := by decide

/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3] (by decide) (by decide)]; rfl

/-- The HBM operands the body moves, as references: unscoped, no window's array (`Pipeline.restRefs`). -/
def H0 : Finset (Ref sig .tc) := {main_arg1, main_arg3, main_arg5, main_arg7}

theorem H0_sub : H0 ⊆ Pipeline.restRefs sig spec0 := by decide

/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl
    all_goals intro b hb; simp only [H0, Finset.mem_insert, Finset.mem_singleton] at hb
    all_goals rcases hb with rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1) ∗ hbPt0 c hbM0_1 (V m c main_arg3) ∗ hbPt0 c hbM0_2 (V m c main_arg5) ∗ hbPt0 c hbM0_3 (V m c main_arg7)) := by
  rw [BI.bigSep_eq_bigSepL_of_eq [main_arg1, main_arg3, main_arg5, main_arg7] (by decide) (by decide)]; rfl

/-- The invariant of a body with transfers of its own, `Pipeline.ΦD`, conjunct by conjunct: the scratch operands owned at
    some contents, the random-number register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg1) ∗ hbPt0 c hbM0_1 (V m c main_arg3) ∗ hbPt0 c hbM0_2 (V m c main_arg5) ∗ hbPt0 c hbM0_3 (V m c main_arg7))) := by
  rw [Pipeline.ΦD_eq, scopedRest0_eq, ownSems00_eq, hbmPts0_eq]; simp only [scM0_0, scM0_1, owns_whole]; try rfl

-- (the run's proof term is large: checking it walks past the default budget)
set_option maxHeartbeats 1092000 in set_option sl_exec.dmaWindow true in set_option sl_exec.dmaWindowSet true in
/-- The body's triple: on whole staging memrefs — the inputs' at their contents,
    the FORGOTTEN outputs' (2, 3, 4, 5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S128x2048 .f32) (harg0 : arg0.IsWhole) (arg4 : Memref sig .tc .vmem S3x1x1000 .f32) (harg4 : arg4.IsWhole) (arg6 : Memref sig .tc .vmem S128x1000 .f32) (harg6 : arg6.IsWhole) (arg7 : Memref sig .tc .vmem S128x1000 .f32) (harg7 : arg7.IsWhole) (arg8 : Memref sig .tc .vmem S128x1000 .f32) (harg8 : arg8.IsWhole) (arg9 : Memref sig .tc .vmem S128x1 .i32) (harg9 : arg9.IsWhole) (arg10 : Memref sig .tc .vmem S128x1 .i32) (harg10 : arg10.IsWhole) (arg11 : Memref sig .tc .vmem S128x1 .i32) (harg11 : arg11.IsWhole) (arg12 : Memref sig .tc .vmem S3x2048x1000 .f32) (harg12 : arg12.IsWhole) (arg13 : Memref sig .tc .vmem S3x128x1000 .f32) (harg13 : arg13.IsWhole)
    (x0 : Vec F S128x2048 .f32) (x1 : Vec F S3x1x1000 .f32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg0 fullShare x0 ∗ owns (c : Thread nD τ) arg4 fullShare x1 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg0 fullShare x0 ∗ owns (c : Thread nD τ) arg4 fullShare x1 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0__decoder_kernel arg0 harg0 (Memref.whole main_arg1) (Memref.isWhole_whole _) (Memref.whole main_arg3) (Memref.isWhole_whole _) (Memref.whole main_arg5) (Memref.isWhole_whole _) arg4 harg4 (Memref.whole main_arg7) (Memref.isWhole_whole _) arg6 harg6 arg7 harg7 arg8 harg8 arg9 harg9 arg10 harg10 arg11 harg11 arg12 harg12 arg13 harg13 cc0_scratch2) K := by
    intro W K
    simp only [cc0__decoder_kernel_eq_skeleton]; unfold cc0__decoder_kernel_skel
    simp only [k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hq0, Hq1, Hq2, Hq3, Hh0, Hh1, Hh2, Hh3, HW, Hk⟩
    obtain rfl := harg0.eq_unread hf0; obtain rfl := harg4.eq_unread hf1
    sl_exec
    sl_step
    iapply Hk
    isplitl [H0]
    · iexists _; isplitr; · ipureintro; exact harg0.read_unread _
      iexact H0
    isplitl [H1]
    · iexists _; isplitr; · ipureintro; exact harg4.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

/-! ## The pipeline's proof data -/

/-- The output windows whose contents are not named (2, 3, 4, 5, 6, 7): nothing reads what the kernel leaves in them, so nothing
    of it is named (Lib/Pipeline/Dat.lean `Dat.toRForget`). -/
def forgets0 : Fin 8 → Bool := fun w => w.val == 2 || w.val == 3 || w.val == 4 || w.val == 5 || w.val == 6 || w.val == 7

/-- The proof data of the one pipeline on core `c`: the arrays as the region finds them (`V`); after the body at
    point `t` each input's buffer at its block and the outputs, FORGOTTEN, at `Dat.unnamed`; the invariant
    (Lib/Pipeline/Frame.lean `ΦD`: the scoped rest, the random-number register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    after0_0, after0_1]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ _ _ _ _ (iblk m c 0 t) (iblk m c 1 t) (V m c main_arg1) (V m c main_arg3) (V m c main_arg5) (V m c main_arg7)) W _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, HS0, HS1, Hq0, Hq1, Hq2, Hq3, Hh0, Hh1, Hh2, Hh3, ⟨%W', HW'⟩⟩
  isplitl [HS0 HS1 Hg Hq0 Hq1 Hq2 Hq3 Hh0 Hh1 Hh2 Hh3]
  · isplitl [HS0 HS1]
    · isplitl [HS0]; · iexact HS0
      iexact HS1
    isplitl [Hg]
    · iexact Hg
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 2, 3, 4, 5, 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- Every run ends with the arguments as they were and every semaphore counter at zero, for any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.IdealKit.lean ====
/- What the run of the kernel over the extended reals is stated with: @main around its one region, the
   contents the region finds, the operands which the body copies by itself and the semaphores it counts
   them with. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 800000 in
/-- @main is the host lines before the region, the region, and the host lines after it. -/
theorem main_around (𝒱₀ : Variants) : Pipeline.HMainK (Ix := Unit) (Name := ℕ) (U := Pipeline.UD sig nD τ) (Lvl := ℕ)
      cfgs 0 defs₀ 𝒱₀ m (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffer of the memref `M` on core `c`. -/
abbrev HeldBuf (c : Dev nD) {sp : Space} {S : Shape} {e : EltTy} (M : Memref sig .tc sp S e) : Type :=
  Buf (Elt F) (M.view.loc (c : Thread nD τ))
/-- The buffer of `M` on core `c`, held whole at the contents `f`. -/
abbrev held (c : Dev nD) {sp : Space} {S : Shape} {e : EltTy} (M : Memref sig .tc sp S e) (f : HeldBuf (F := F) c M) :
    sProp 𝕄 :=
  M.view.loc (c : Thread nD τ) ↦{fullShare} f

/-- The three weights and the noise, as the body takes them. -/
abbrev wR : Memref sig .tc .hbm S2048x1000 .f32 := Memref.whole main_arg1
abbrev wP : Memref sig .tc .hbm S2048x1000 .f32 := Memref.whole main_arg3
abbrev wL : Memref sig .tc .hbm S2048x1000 .f32 := Memref.whole main_arg5
abbrev noise : Memref sig .tc .hbm S3x128x1000 .f32 := Memref.whole main_arg7
/-- The two scratch buffers: the three weights' slots, and the noise. -/
abbrev wbuf : Memref sig .tc .vmem S3x2048x1000 .f32 := Memref.whole cc0_scratch0
abbrev gbuf : Memref sig .tc .vmem S3x128x1000 .f32 := Memref.whole cc0_scratch1

/-- The semaphores of the body's own copies. -/
abbrev ownSem : Fin 4 → SemLoc sig := fun j => (![SemLoc.dma 8, SemLoc.dma 9, SemLoc.dma 10, SemLoc.dma 11] : Fin 4 → SemLoc sig) j
theorem ownSem_facts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0) := by
  rw [Pipeline.ownSems0_eq_of_list c ownSem [0, 1, 2, 3] (by decide) (by decide)]; rfl

/-- The arguments which the body's own copies read. -/
def moved : Finset (Ref sig .tc) := {main_arg1, main_arg3, main_arg5, main_arg7}
theorem moved_sub : moved ⊆ Pipeline.restRefs sig spec0 := by decide

/-- The host lines after the region touch none of them. -/
theorem after_but : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  refine Pipeline.sub_tailRefsBut Pipeline.Prefetch.none spec0 moved op ((List.forall_iff_forall_mem.mp hostOps1_sub) op hop)
    (fun j => j.elim0) ?_
  simp only [hostOps1, List.mem_cons, List.mem_nil_iff, or_false] at hop
  rcases hop with rfl | rfl | rfl
  all_goals intro b hb; simp only [moved, Finset.mem_insert, Finset.mem_singleton] at hb
  all_goals rcases hb with rfl | rfl | rfl | rfl <;>
    simp only [StableHlo.reshape_bufs, Finset.mem_insert, Finset.mem_singleton, not_or] <;> and_intros <;>
    exact StableHlo.devRef_ne_of_ne (by decide)

theorem moved_eq (c : Dev nD) :
    (bigSep moved (fun b => ((c : Thread nD τ).loc b) ↦{fullShare} V m c b) : sProp 𝕄)
      = iprop(held c wR (V m c main_arg1) ∗ held c wP (V m c main_arg3) ∗ held c wL (V m c main_arg5) ∗ held c noise (V m c main_arg7)) := by
  rw [BI.bigSep_eq_bigSepL_of_eq [main_arg1, main_arg3, main_arg5, main_arg7] (by decide) (by decide)]; rfl

/-- The invariant of the region: the scratch at some contents, the random-number register, the body's own semaphores at
    zero and the moved arguments as the region found them. -/
theorem inv_eq (c : Dev nD) :
    (Pipeline.ΦD ownSem spec0 moved (V m) c : sProp 𝕄)
      = iprop(iprop((∃ d, owns (c : Thread nD τ) wbuf fullShare d) ∗ (∃ d, owns (c : Thread nD τ) gbuf fullShare d))
        ∗ (∃ r, prngReg c r)
        ∗ iprop(semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0)
        ∗ iprop(held c wR (V m c main_arg1) ∗ held c wP (V m c main_arg3) ∗ held c wL (V m c main_arg5) ∗ held c noise (V m c main_arg7))) := by
  rw [Pipeline.ΦD_eq, scopedRest0_eq, ownSems_eq, moved_eq]; simp only [wbuf, gbuf, owns_whole]; try rfl

/-- An input's staging buffer holds the block of its array, for any proof data whose arrays are the region-entry
    contents and whose body leaves the block in place. -/
theorem before_x {c : Dev nD} (dat : Dat τ (Elt F) Unit ℕ (Pipeline.UD sig nD τ) ℕ cfg0 c)
    (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_b {c : Dev nD} (dat : Dat τ (Elt F) Unit ℕ (Pipeline.UD sig nD τ) ℕ cfg0 c)
    (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.IdealHeads.lean ====
/- What the kernel computes for one head, as functions of the head's operands: the logits, the search for the
   key of the K-th greatest of them bit by bit, the softmax of what is kept and the sample. -/
module

public import proofs.«01_k».proof.Proof.IdealKit
public import Idealize.ShloMosaic.Lib.ViewIndex
public import Idealize.ShloMosaic.Lib.VecWindow
public import Idealize.ShloMosaic.Lib.Pipeline.ReadBack
public import Idealize.ShloMosaic.Lib.WholeRead

@[expose] public section

noncomputable section

namespace Cert.KernelIdeal.Hand

open Idealize.ShloMosaic Idealize.ShloMosaic.TcCoe
open Cert.KernelIdeal.Gen

variable {F : FTy → Type} [FloatOps F]

/-- The logits of a head: the product with its weight, and its bias along the rows. -/
def logits (x : Vec F S128x2048 .f32) (w : FVec F S2048x1000 .f32) (b : Vec F S1x1x1000 .f32) : FVec F S128x1000 .f32 :=
  addf (matmul dot_S128x2048_S2048x1000_S128x1000_1_0_0_1_n_n none x w (constant S128x1000 .f32 0x00000000#32))
    (broadcastTo S128x1000 (shapeCast S1x1000 b shapeCasts_S1x1x1000_S1x1000) broadcasts_S1x1000_S128x1000)

/-- Each row's candidate key, or the key of minus infinity when it is below that. -/
def raisedKey (cand : IVec S128x1 32) : IVec S128x1 32 := maxsi cand (broadcast S128x1 2155872255#32)

/-- The float each row's candidate key stands for. -/
def bound (cand : IVec S128x1 32) : FVec F S128x1 .f32 :=
  bitcastToFloat .f32 (select (cmpi .sge (raisedKey cand) (broadcast S128x1 0#32)) (raisedKey cand)
    (xori (raisedKey cand) (broadcast S128x1 2147483647#32)))

/-- Which logits reach their row's candidate key. -/
def reach (l : FVec F S128x1000 .f32) (cand : IVec S128x1 32) : IVec S128x1000 1 :=
  andi (broadcastTo S128x1000 (cmpi .sle cand (broadcast S128x1 2139095040#32)) broadcasts_S128x1_S128x1000)
    (cmpf .oge l (broadcastTo S128x1000 (bound cand) broadcasts_S128x1_S128x1000))

/-- How many logits of each row reach its candidate key. -/
def count (l : FVec F S128x1000 .f32) (cand : IVec S128x1 32) : IVec S128x1 32 :=
  shapeCast S128x1 (multiReductionI .add [1] S128
    (extui 32 (xori (reach l cand) (broadcastTo S128x1000 (broadcast S128x1000 0#1) broadcasts_S128x1000_S128x1000))
      natLt_1_32) 0#32 reduces_S128x1000_S128 rfl) shapeCasts_S128_S128x1

/-- One round of the search: a bit is taken where at least K logits reach the candidate with it. -/
def narrow (l : FVec F S128x1000 .f32) (p : IVec S128x1 32) (bit : BitVec 32) : IVec S128x1 32 :=
  select (cmpi .sge (count l (addi p (broadcast S128x1 bit))) (broadcast S128x1 100#32)) (addi p (broadcast S128x1 bit)) p

/-- The bits, the highest first. -/
def bits : List (BitVec 32) :=
  [2147483648#32, 1073741824#32, 536870912#32, 268435456#32, 134217728#32, 67108864#32, 33554432#32, 16777216#32,
    8388608#32, 4194304#32, 2097152#32, 1048576#32, 524288#32, 262144#32, 131072#32, 65536#32,
    32768#32, 16384#32, 8192#32, 4096#32, 2048#32, 1024#32, 512#32, 256#32,
    128#32, 64#32, 32#32, 16#32, 8#32, 4#32, 2#32, 1#32]

/-- The key which the search ends with in each row. -/
def search (l : FVec F S128x1000 .f32) : IVec S128x1 32 :=
  bits.foldl (narrow l) (broadcast S128x1 2147483648#32)

/-- Which logits are kept. -/
def kept (l : FVec F S128x1000 .f32) : IVec S128x1000 1 := reach l (search l)

/-- The exponentials of the kept logits over their row's greatest, zero elsewhere. -/
def unnorm (l : FVec F S128x1000 .f32) : FVec F S128x1000 .f32 :=
  select (kept l)
    (exp (subf l (broadcastTo S128x1000 (shapeCast S128x1
      (multiReduction .maximumf [1] S128 l 0xFF800000#32 reduces_S128x1000_S128 (.inl rfl) rfl) shapeCasts_S128_S128x1)
      broadcasts_S128x1_S128x1000)))
    (broadcast S128x1000 (Scalar.ofBits .f32 0x00000000#32))

/-- The probabilities of a head. -/
def probs (l : FVec F S128x1000 .f32) : FVec F S128x1000 .f32 :=
  divf (unnorm l) (broadcastTo S128x1000 (shapeCast S128x1
    (multiReduction .add [1] S128 (unnorm l) 0x00000000#32 reduces_S128x1000_S128 (.inl rfl) rfl) shapeCasts_S128_S128x1)
    broadcasts_S128x1_S128x1000)

/-- The kept logits with the noise, minus infinity elsewhere. -/
def noisy (l g : FVec F S128x1000 .f32) : FVec F S128x1000 .f32 :=
  select (kept l) (addf l g) (broadcast S128x1000 (Scalar.ofBits .f32 0xFF800000#32))

/-- The sample of a head: the first place in each row where the noisy logits are greatest. -/
def sample (l g : FVec F S128x1000 .f32) : IVec S128x1 32 :=
  shapeCast S128x1 (multiReductionI .minsi [1] S128
    (select (cmpf .oeq (noisy l g) (broadcastTo S128x1000 (shapeCast S128x1
        (multiReduction .maximumf [1] S128 (noisy l g) 0xFF800000#32 reduces_S128x1000_S128 (.inl rfl) rfl)
        shapeCasts_S128_S128x1) broadcasts_S128x1_S128x1000))
      (iota .tc S128x1000 32 [1] iota_S128x1000_d1_w32) (broadcast S128x1000 1000#32))
    2147483647#32 reduces_S128x1000_S128 rfl) shapeCasts_S128_S128x1

/-- A head's row of the three stacked biases. -/
def biasOf (b : Vec F S3x1x1000 .f32) (h : ℕ) (hb : ∀ a, (![h, 0, 0] : Fin 3 → ℕ) a + S1x1x1000.size a ≤ S3x1x1000.size a) :
    Vec F S1x1x1000 .f32 := fun j => b ((Rect.unit (s := S3x1x1000) ![h, 0, 0] S1x1x1000.size hb).emb j)

/-- A head's slab of the noise. -/
def noiseOf (g : Vec F S3x128x1000 .f32) (h : ℕ) (hb : ∀ a, (![h, 0, 0] : Fin 3 → ℕ) a + S1x128x1000.size a ≤ S3x128x1000.size a) :
    FVec F S128x1000 .f32 :=
  shapeCast S128x1000 (fun j => g ((Rect.unit (s := S3x128x1000) ![h, 0, 0] S1x128x1000.size hb).emb j)) shapeCasts_S1x128x1000_S128x1000

/-! ## The slots of the weights -/

section Slots

variable {sig : RefSig} {κ : Kind} {sp : Space} {Val : EltTy → Type}

/-- A write through one reshaped rectangle of a memref is not seen through another that shares no index with it. -/
theorem read_apart {s s₁ s₂ : Shape} {e : EltTy} (M : Memref sig κ sp s e) (r r' : Rect s) (hr hr')
    (hd : Disjoint r.set r'.set) (hq : r.shape.Squeezes s₁) (hq' : r'.shape.Squeezes s₂)
    (f : M.view.ty.Contents Val) (w : s₂.Idx → Val e) :
    ((M.slice r hr).squeeze s₁ hq).view.read Val (((M.slice r' hr').squeeze s₂ hq').view.write Val f w Finset.univ)
      = ((M.slice r hr).squeeze s₁ hq).view.read Val f := by
  have hd' := View.disjoint_slice (v := M.view) hd
  have e1 : ((M.slice r hr).squeeze s₁ hq).view.set = (M.view.slice r).set := View.set_reshape (M.view.slice r) _
  have e2 : ((M.slice r' hr').squeeze s₂ hq').view.set = (M.view.slice r').set := View.set_reshape (M.view.slice r') _
  refine View.read_congr (v := ((M.slice r hr).squeeze s₁ hq).view) fun i hi =>
    View.write_of_not_mem (v := ((M.slice r' hr').squeeze s₂ hq').view) _ _ _ fun hi' => ?_
  rw [View.setOn_univ] at hi'
  exact Finset.disjoint_left.mp hd' (e1 ▸ hi) (e2 ▸ hi')

/-- One slot of the weights' scratch. -/
abbrev slot (M : Memref sig κ sp S3x2048x1000 .f32) (h : ℕ)
    (hb : ∀ a, (![h, 0, 0] : Fin 3 → ℕ) a + S1x2048x1000.size a ≤ S3x2048x1000.size a) : View sig κ sp S2048x1000 .f32 :=
  ((M.slice (Rect.unit (s := S3x2048x1000) ![h, 0, 0] S1x2048x1000.size hb) (fun _ => rfl)).squeeze S2048x1000
    squeezes_S1x2048x1000_S2048x1000).view

/-- A copy into one slot leaves the others as they were. -/
theorem slot_other (M : Memref sig κ sp S3x2048x1000 .f32) {h k : ℕ} (hk : h + 1 ≤ k ∨ k + 1 ≤ h) (hb hb')
    (f : M.view.ty.Contents Val) (w : S2048x1000.Idx → Val .f32) :
    (slot M h hb).read Val ((slot M k hb').write Val f w Finset.univ) = (slot M h hb).read Val f :=
  read_apart M _ _ _ _ (Rect.unit_disjoint (s := S3x2048x1000) 0 hk) _ _ f w

/-- A slot after a copy into it. -/
theorem slot_own (M : Memref sig κ sp S3x2048x1000 .f32) {h : ℕ} (hb)
    (f : M.view.ty.Contents Val) (w : S2048x1000.Idx → Val .f32) :
    (slot M h hb).read Val ((slot M h hb).write Val f w Finset.univ) = w :=
  View.read_write_univ (v := slot M h hb) f w

/-- A load of a slot through the whole scratch is what the slot holds. -/
theorem slot_load (M : Memref sig κ sp S3x2048x1000 .f32) (h : ℕ)
    (hb : ∀ a, (![h, 0, 0] : Fin 3 → ℕ) a + S1x2048x1000.size a ≤ S3x2048x1000.size a) (f : M.view.ty.Contents Val) :
    shapeCast S2048x1000 (M.view.readAt Val (Rect.unit (s := S3x2048x1000) ![h, 0, 0] S1x2048x1000.size hb).toLoadRect f)
      shapeCasts_S1x2048x1000_S2048x1000 = (slot M h hb).read Val f := rfl

/-- A covered load after a write of the whole buffer reads what was written, at the rectangle's places. -/
theorem readCov_whole {s : Shape} {e : EltTy} [∀ e, Nonempty (Val e)] (v : View sig κ sp s e) (w : s.Idx → Val e) (r : Rect s) :
    v.readCov [⟨Rect.whole s, w⟩] r.toLoadRect = fun j => w (r.emb j) := by
  funext j
  exact congrFun (View.read_writes_whole v v.junk w) _

end Slots

end Cert.KernelIdeal.Hand

end
-- ==== Proof.IdealRun.lean ====
/- The kernel's body over any float values: from the windows, the scratch and the arguments it copies by itself,
   it leaves in each output the value which the head's function gives. -/
module

public import proofs.«01_k».proof.Proof.IdealHeads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

set_option maxHeartbeats 8000000 in set_option sl_exec.dmaWindow true in set_option sl_exec.dmaWindowSet true in
/-- The body's run. -/
theorem body_run (c : Dev nD) (arg0 : Memref sig .tc .vmem S128x2048 .f32) (harg0 : arg0.IsWhole) (arg4 : Memref sig .tc .vmem S3x1x1000 .f32) (harg4 : arg4.IsWhole) (arg6 : Memref sig .tc .vmem S128x1000 .f32) (harg6 : arg6.IsWhole) (arg7 : Memref sig .tc .vmem S128x1000 .f32) (harg7 : arg7.IsWhole) (arg8 : Memref sig .tc .vmem S128x1000 .f32) (harg8 : arg8.IsWhole) (arg9 : Memref sig .tc .vmem S128x1 .i32) (harg9 : arg9.IsWhole) (arg10 : Memref sig .tc .vmem S128x1 .i32) (harg10 : arg10.IsWhole) (arg11 : Memref sig .tc .vmem S128x1 .i32) (harg11 : arg11.IsWhole) (arg12 : Memref sig .tc .vmem S3x2048x1000 .f32) (harg12 : arg12.IsWhole) (arg13 : Memref sig .tc .vmem S3x128x1000 .f32) (harg13 : arg13.IsWhole)
    (x0 : Vec F S128x2048 .f32) (x1 : Vec F S3x1x1000 .f32) (fh0 : HeldBuf (F := F) c wR) (fh1 : HeldBuf (F := F) c wP) (fh2 : HeldBuf (F := F) c wL) (fh3 : HeldBuf (F := F) c noise) :
      ∀ (W : Waits sig Unit) (K : PUnit → sProp 𝕄),
        iprop(owns (c : Thread nD τ) arg0 fullShare x0 ∗ owns (c : Thread nD τ) arg4 fullShare x1 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ held c wR fh0 ∗ held c wP fh1 ∗ held c wL fh2 ∗ held c noise fh3 ∗ owes (c : Thread nD τ) 0 W
            ∗ (iprop(owns (c : Thread nD τ) arg0 fullShare x0 ∗ owns (c : Thread nD τ) arg4 fullShare x1 ∗ owns (c : Thread nD τ) arg6 fullShare (probs (logits x0 (wR.view.read (Elt F) fh0) (biasOf x1 0 inb_S3x1x1000_S1x1x1000_0_0_0))) ∗ owns (c : Thread nD τ) arg7 fullShare (probs (logits x0 (wP.view.read (Elt F) fh1) (biasOf x1 1 inb_S3x1x1000_S1x1x1000_1_0_0))) ∗ owns (c : Thread nD τ) arg8 fullShare (probs (logits x0 (wL.view.read (Elt F) fh2) (biasOf x1 2 inb_S3x1x1000_S1x1x1000_2_0_0))) ∗ owns (c : Thread nD τ) arg9 fullShare (sample (logits x0 (wR.view.read (Elt F) fh0) (biasOf x1 0 inb_S3x1x1000_S1x1x1000_0_0_0)) (noiseOf (noise.view.read (Elt F) fh3) 0 inb_S3x128x1000_S1x128x1000_0_0_0)) ∗ owns (c : Thread nD τ) arg10 fullShare (sample (logits x0 (wP.view.read (Elt F) fh1) (biasOf x1 1 inb_S3x1x1000_S1x1x1000_1_0_0)) (noiseOf (noise.view.read (Elt F) fh3) 1 inb_S3x128x1000_S1x128x1000_1_0_0)) ∗ owns (c : Thread nD τ) arg11 fullShare (sample (logits x0 (wL.view.read (Elt F) fh2) (biasOf x1 2 inb_S3x1x1000_S1x1x1000_2_0_0)) (noiseOf (noise.view.read (Elt F) fh3) 2 inb_S3x128x1000_S1x128x1000_2_0_0)) ∗ (∃ d, owns (c : Thread nD τ) arg12 fullShare d) ∗ (∃ d, owns (c : Thread nD τ) arg13 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ held c wR fh0 ∗ held c wP fh1 ∗ held c wL fh2 ∗ held c noise fh3 ∗ (∃ W', owes (c : Thread nD τ) 0 W')) -∗ K ⟨⟩))
          ⊢ wp frame (wpE (defs₀ (F := F)) Variants.none c none) Set.univ (cc0__decoder_kernel arg0 harg0 (Memref.whole main_arg1) (Memref.isWhole_whole _) (Memref.whole main_arg3) (Memref.isWhole_whole _) (Memref.whole main_arg5) (Memref.isWhole_whole _) arg4 harg4 (Memref.whole main_arg7) (Memref.isWhole_whole _) arg6 harg6 arg7 harg7 arg8 harg8 arg9 harg9 arg10 harg10 arg11 harg11 arg12 harg12 arg13 harg13 cc0_scratch2) K := by
    intro W K
    simp only [cc0__decoder_kernel_eq_skeleton]; unfold cc0__decoder_kernel_skel
    simp only [k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hq0, Hq1, Hq2, Hq3, Hh0, Hh1, Hh2, Hh3, HW, Hk⟩
    obtain rfl := harg0.eq_unread hf0; obtain rfl := harg4.eq_unread hf1
    sl_exec
    sl_step
    iapply Hk
    have ex : body_run.sl.r c arg0 harg0 x0 = x0 := by
      funext j
      refine (harg0.readAt_unread x0 _ j).trans (congrArg x0 ?_)
      exact Rect.emb_unit_full (s := S128x2048) _ j
    have eb : ∀ h hb, View.readAt (Elt F) arg4.view (Rect.unit (s := S3x1x1000) ![h, 0, 0] S1x1x1000.size hb).toLoadRect (harg4.unread x1)
        = biasOf x1 h hb := fun h hb => funext fun j => harg4.readAt_unread x1 _ j
    have ew0 : shapeCast S2048x1000 (body_run.sl.v21 c arg12 fh0 fh1 fh2 fs0) shapeCasts_S1x2048x1000_S2048x1000 = wR.view.read (Elt F) fh0 :=
      (slot_load arg12 0 _ _).trans ((slot_other arg12 (.inl (by decide)) _ _ _ _).trans
        ((slot_other arg12 (.inl (by decide)) _ _ _ _).trans (slot_own arg12 _ _ _)))
    have ew1 : shapeCast S2048x1000 (body_run.sl.v874 c arg12 fh0 fh1 fh2 fs0) shapeCasts_S1x2048x1000_S2048x1000 = wP.view.read (Elt F) fh1 :=
      (slot_load arg12 1 _ _).trans ((slot_other arg12 (.inl (by decide)) _ _ _ _).trans (slot_own arg12 _ _ _))
    have ew2 : shapeCast S2048x1000 (body_run.sl.v1727 c arg12 fh0 fh1 fh2 fs0) shapeCasts_S1x2048x1000_S2048x1000 = wL.view.read (Elt F) fh2 :=
      (slot_load arg12 2 _ _).trans (slot_own arg12 _ _ _)
    have el0 : logits (body_run.sl.r c arg0 harg0 x0) (shapeCast S2048x1000 (body_run.sl.v21 c arg12 fh0 fh1 fh2 fs0) shapeCasts_S1x2048x1000_S2048x1000)
          (View.readAt (Elt F) arg4.view (Rect.unit (s := S3x1x1000) ![0, 0, 0] S1x1x1000.size inb_S3x1x1000_S1x1x1000_0_0_0).toLoadRect (harg4.unread x1))
          = logits x0 (wR.view.read (Elt F) fh0) (biasOf x1 0 inb_S3x1x1000_S1x1x1000_0_0_0) := by rw [ex, eb, ew0]
    have eg0 : shapeCast S128x1000 (body_run.sl.v28 c arg13 fh3) shapeCasts_S1x128x1000_S128x1000
        = noiseOf (noise.view.read (Elt F) fh3) 0 inb_S3x128x1000_S1x128x1000_0_0_0 :=
      congrArg (fun y => shapeCast S128x1000 y shapeCasts_S1x128x1000_S128x1000) (readCov_whole arg13.view _ _)
    have el1 : logits (body_run.sl.r c arg0 harg0 x0) (shapeCast S2048x1000 (body_run.sl.v874 c arg12 fh0 fh1 fh2 fs0) shapeCasts_S1x2048x1000_S2048x1000)
          (View.readAt (Elt F) arg4.view (Rect.unit (s := S3x1x1000) ![1, 0, 0] S1x1x1000.size inb_S3x1x1000_S1x1x1000_1_0_0).toLoadRect (harg4.unread x1))
          = logits x0 (wP.view.read (Elt F) fh1) (biasOf x1 1 inb_S3x1x1000_S1x1x1000_1_0_0) := by rw [ex, eb, ew1]
    have eg1 : shapeCast S128x1000 (body_run.sl.v881 c arg13 fh3) shapeCasts_S1x128x1000_S128x1000
        = noiseOf (noise.view.read (Elt F) fh3) 1 inb_S3x128x1000_S1x128x1000_1_0_0 :=
      congrArg (fun y => shapeCast S128x1000 y shapeCasts_S1x128x1000_S128x1000) (readCov_whole arg13.view _ _)
    have el2 : logits (body_run.sl.r c arg0 harg0 x0) (shapeCast S2048x1000 (body_run.sl.v1727 c arg12 fh0 fh1 fh2 fs0) shapeCasts_S1x2048x1000_S2048x1000)
          (View.readAt (Elt F) arg4.view (Rect.unit (s := S3x1x1000) ![2, 0, 0] S1x1x1000.size inb_S3x1x1000_S1x1x1000_2_0_0).toLoadRect (harg4.unread x1))
          = logits x0 (wL.view.read (Elt F) fh2) (biasOf x1 2 inb_S3x1x1000_S1x1x1000_2_0_0) := by rw [ex, eb, ew2]
    have eg2 : shapeCast S128x1000 (body_run.sl.v1734 c arg13 fh3) shapeCasts_S1x128x1000_S128x1000
        = noiseOf (noise.view.read (Elt F) fh3) 2 inb_S3x128x1000_S1x128x1000_2_0_0 :=
      congrArg (fun y => shapeCast S128x1000 y shapeCasts_S1x128x1000_S128x1000) (readCov_whole arg13.view _ _)
    isplitl [H0]
    · iexists _; isplitr; · ipureintro; exact harg0.read_unread _
      iexact H0
    isplitl [H1]
    · iexists _; isplitr; · ipureintro; exact harg4.read_unread _
      iexact H1
    isplitl [H2]
    · iexists _; isplitr; swap; · iexact H2
      ipureintro
      refine (View.read_writes_full _ _ _ _ _).trans ?_
      rw [← el0]
      set_option maxRecDepth 1000000 in
      exact rfl
    isplitl [H3]
    · iexists _; isplitr; swap; · iexact H3
      ipureintro
      refine (View.read_writes_full _ _ _ _ _).trans ?_
      rw [← el1]
      set_option maxRecDepth 1000000 in
      exact rfl
    isplitl [H4]
    · iexists _; isplitr; swap; · iexact H4
      ipureintro
      refine (View.read_writes_full _ _ _ _ _).trans ?_
      rw [← el2]
      set_option maxRecDepth 1000000 in
      exact rfl
    isplitl [H5]
    · iexists _; isplitr; swap; · iexact H5
      ipureintro
      refine (View.read_writes_full _ _ _ _ _).trans ?_
      rw [← el0, ← eg0]
      set_option maxRecDepth 1000000 in
      exact rfl
    isplitl [H6]
    · iexists _; isplitr; swap; · iexact H6
      ipureintro
      refine (View.read_writes_full _ _ _ _ _).trans ?_
      rw [← el1, ← eg1]
      set_option maxRecDepth 1000000 in
      exact rfl
    isplitl [H7]
    · iexists _; isplitr; swap; · iexact H7
      ipureintro
      refine (View.read_writes_full _ _ _ _ _).trans ?_
      rw [← el2, ← eg2]
      set_option maxRecDepth 1000000 in
      exact rfl
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Hand

end
-- ==== Proof.IdealFrame.lean ====
/- The run of the kernel over any float values, with what it leaves in its results, and its frame: every run of it
   ends, leaves the arguments as they were and every semaphore at zero. -/
module

public import proofs.«01_k».proof.Proof.IdealRun
public import Idealize.ShloMosaic.Lib.Pipeline.FrameSuffixR
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region finds and leaves -/

/-- The logits of the three heads, from the blocks and the weights which the region finds. -/
def found0 (c : Dev nD) (t : Fin cfg0.N) : FVec F S128x1000 .f32 :=
  logits (iblk m c 0 t) (wR.view.read (Elt F) (V m c main_arg1)) (biasOf (iblk m c 1 t) 0 inb_S3x1x1000_S1x1x1000_0_0_0)
def found1 (c : Dev nD) (t : Fin cfg0.N) : FVec F S128x1000 .f32 :=
  logits (iblk m c 0 t) (wP.view.read (Elt F) (V m c main_arg3)) (biasOf (iblk m c 1 t) 1 inb_S3x1x1000_S1x1x1000_1_0_0)
def found2 (c : Dev nD) (t : Fin cfg0.N) : FVec F S128x1000 .f32 :=
  logits (iblk m c 0 t) (wL.view.read (Elt F) (V m c main_arg5)) (biasOf (iblk m c 1 t) 2 inb_S3x1x1000_S1x1x1000_2_0_0)
/-- Their noise. -/
def drawn0 (c : Dev nD) : FVec F S128x1000 .f32 :=
  noiseOf (noise.view.read (Elt F) (V m c main_arg7)) 0 inb_S3x128x1000_S1x128x1000_0_0_0
def drawn1 (c : Dev nD) : FVec F S128x1000 .f32 :=
  noiseOf (noise.view.read (Elt F) (V m c main_arg7)) 1 inb_S3x128x1000_S1x128x1000_1_0_0
def drawn2 (c : Dev nD) : FVec F S128x1000 .f32 :=
  noiseOf (noise.view.read (Elt F) (V m c main_arg7)) 2 inb_S3x128x1000_S1x128x1000_2_0_0

/-- The proof data: the arrays as the region finds them, each input's block left in place, each output at what its
    head gives. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => probs (found0 m c t)
    | ⟨3, _⟩ => probs (found1 m c t)
    | ⟨4, _⟩ => probs (found2 m c t)
    | ⟨5, _⟩ => sample (found0 m c t) (drawn0 m c)
    | ⟨6, _⟩ => sample (found1 m c t) (drawn1 m c)
    | ⟨7, _⟩ => sample (found2 m c t) (drawn2 m c)
  Φ _ := Pipeline.ΦD ownSem spec0 moved (V m) c
  q _ := fullShare
  owed _ := 0

theorem data_A (c : Dev nD) (w : Fin cfg0.W) : (data m 0 c).A w = V m c (Pipeline.arrRef spec0 w) := by
  dsimp only [data]
theorem data_after0 (c : Dev nD) (t : Fin cfg0.N) : (data m 0 c).after 0 t = iblk m c 0 t := by dsimp only [data]
theorem data_after1 (c : Dev nD) (t : Fin cfg0.N) : (data m 0 c).after 1 t = iblk m c 1 t := by dsimp only [data]
theorem data_after2 (c : Dev nD) (t : Fin cfg0.N) : (data m 0 c).after 2 t = probs (found0 m c t) := by dsimp only [data]
theorem data_after3 (c : Dev nD) (t : Fin cfg0.N) : (data m 0 c).after 3 t = probs (found1 m c t) := by dsimp only [data]
theorem data_after4 (c : Dev nD) (t : Fin cfg0.N) : (data m 0 c).after 4 t = probs (found2 m c t) := by dsimp only [data]
theorem data_after5 (c : Dev nD) (t : Fin cfg0.N) : (data m 0 c).after 5 t = sample (found0 m c t) (drawn0 m c) := by dsimp only [data]
theorem data_after6 (c : Dev nD) (t : Fin cfg0.N) : (data m 0 c).after 6 t = sample (found1 m c t) (drawn1 m c) := by dsimp only [data]
theorem data_after7 (c : Dev nD) (t : Fin cfg0.N) : (data m 0 c).after 7 t = sample (found2 m c t) (drawn2 m c) := by dsimp only [data]
theorem data_before0 (c : Dev nD) (t : Fin cfg0.N) (d) : (data m 0 c).before 0 t d = iblk m c 0 t :=
  before_x m (data m 0 c) (data_A m c 0) (data_after0 m c) t d
theorem data_before1 (c : Dev nD) (t : Fin cfg0.N) (d) : (data m 0 c).before 1 t d = iblk m c 1 t :=
  before_b m (data m 0 c) (data_A m c 1) (data_after1 m c) t d

/-! ## The body at a point -/

/-- What the body is called with, -/
def given (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d)))

/-- and what it returns. -/
def left (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t))

set_option maxHeartbeats 1600000 in
/-- The body's run at a point: the invariant hands it the scratch, its semaphores and the arguments it moves, and takes
    them back. -/
theorem body_at (c : Dev nD) (t : Fin cfg0.N) :
    given m c t ⊢ wp frame (wpE (defs₀ (F := F)) Variants.none c none) Set.univ (bodyAt0 t) (fun _ => left m c t) := by
  unfold given left bodyAt0
  simp only [data_before0, data_before1]
  rw [show (data m 0 c).Φ t.succ = (data m 0 c).Φ t.castSucc from rfl,
    data_after0, data_after1, data_after2, data_after3, data_after4, data_after5, data_after6, data_after7]
  rw [show (data m 0 c).Φ t.castSucc = Pipeline.ΦD ownSem spec0 moved (V m) c from rfl, inv_eq]
  unfold Dat.owesAt Pipeline.owesWithin
  rw [show (data m 0 c).owed t.castSucc = 0 from rfl, show (data m 0 c).owed t.succ = 0 from rfl]
  iintro ⟨⟨⟨HS0, HS1⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c _ _ _ _ _ _ _ _ _ _ _ _ _ _ _ _ _ _ _ _ (iblk m c 0 t) (iblk m c 1 t) (V m c main_arg1) (V m c main_arg3) (V m c main_arg5) (V m c main_arg7)) W _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, HS0, HS1, Hq0, Hq1, Hq2, Hq3, Hh0, Hh1, Hh2, Hh3, ⟨%W', HW'⟩⟩
  isplitl [HS0 HS1 Hg Hq0 Hq1 Hq2 Hq3 Hh0 Hh1 Hh2 Hh3]
  · isplitl [HS0 HS1]
    · isplitl [HS0]; · iexact HS0
      iexact HS1
    isplitl [Hg]
    · iexact Hg
    isplitl [Hq0 Hq1 Hq2 Hq3]
    · isplitl [Hq0]; · iexact Hq0
      isplitl [Hq1]; · iexact Hq1
      isplitl [Hq2]; · iexact Hq2
      iexact Hq3
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The body's obligation at every point. -/
theorem body_meets (c : Dev nD) : BodyObligation (data (F := F) m 0 c) (defs₀ (F := F)) Variants.none () Set.univ := fun t => by
  rw [bigSep_W0, bigSep_W0, row_eq]
  exact triple_restated (body_at m c t) rfl .rfl fun _ => .rfl

/-! ## The run -/

set_option backward.isDefEq.respectTransparency.types false in
set_option maxHeartbeats 800000 in
/-- Every run ends with the arrays as the region leaves them, every other buffer as the later host lines leave it, and
    every semaphore at zero. -/
theorem run_full : θ_run defs (onTc (τ := τ) (main (F := F))) (s₀ m ρ) (fun r =>
    Pipeline.FramePost cfgs (data m) 0 (Pipeline.afterTail₀ cfgs (data m) 0 (V0 m) [hostOps1]) r ∧ r.2.sem = fun _ => 0) :=
  Pipeline.θ_run_frame_dma_around (Q' := _) cfgs (data m) (0 : Fin 1) launch0 ownSem defs₀ Variants.none ownSem_facts moved moved_sub m ρ main
    (hbody := fun c => (body_meets m c).loose) (hshare := fun c => (data m 0 c).share_full fun _ => rfl)
    (howed := fun _ _ => rfl) (V₀ := V0 m) (opss := [hostOps1]) (hsub := after_but) (hfresh := sfx_fresh) (hkeep := sfx_keeps)
    (hmain := main_around m Variants.none) (hA := data_A m) (hin := fun _ => .rfl) (hout := fun _ => .rfl)
    (hQ' := fun _ h => h)

end Cert.KernelIdeal.Hand

end
-- ==== Proof.IdealValue.lean ====
/- The results which every run of the kernel ends with, and its frame. -/
module

public import proofs.«01_k».proof.Proof.IdealFrame

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg)

/-! ## The arrays which the region writes -/

theorem array_probs0 (c : Dev nD) : (data m 0 c).arrAt 2 cfg0.N = probs (found0 m c t0_0) := by
  refine (data m 0 c).arrAt_eq_of_after_last 2 t0_0 (by decide +kernel) _ fun j => ?_
  blk_simp
  rw [data_after2]
theorem array_sample0 (c : Dev nD) : (data m 0 c).arrAt 5 cfg0.N = sample (found0 m c t0_0) (drawn0 m c) := by
  refine (data m 0 c).arrAt_eq_of_after_last 5 t0_0 (by decide +kernel) _ fun j => ?_
  blk_simp
  rw [data_after5]
theorem array_probs1 (c : Dev nD) : (data m 0 c).arrAt 3 cfg0.N = probs (found1 m c t0_0) := by
  refine (data m 0 c).arrAt_eq_of_after_last 3 t0_0 (by decide +kernel) _ fun j => ?_
  blk_simp
  rw [data_after3]
theorem array_sample1 (c : Dev nD) : (data m 0 c).arrAt 6 cfg0.N = sample (found1 m c t0_0) (drawn1 m c) := by
  refine (data m 0 c).arrAt_eq_of_after_last 6 t0_0 (by decide +kernel) _ fun j => ?_
  blk_simp
  rw [data_after6]
theorem array_probs2 (c : Dev nD) : (data m 0 c).arrAt 4 cfg0.N = probs (found2 m c t0_0) := by
  refine (data m 0 c).arrAt_eq_of_after_last 4 t0_0 (by decide +kernel) _ fun j => ?_
  blk_simp
  rw [data_after4]
theorem array_sample2 (c : Dev nD) : (data m 0 c).arrAt 7 cfg0.N = sample (found2 m c t0_0) (drawn2 m c) := by
  refine (data m 0 c).arrAt_eq_of_after_last 7 t0_0 (by decide +kernel) _ fun j => ?_
  blk_simp
  rw [data_after7]

/-! ## The later host lines -/

theorem last_sample0 (c : Dev nD) : Pipeline.afterTail₀ cfgs (data m) 0 (V0 m) [hostOps1] c main_v6
    = shapeCast S128 (sample (found0 m c t0_0) (drawn0 m c)) shapeCasts_S128x1_S128 := by
  unfold Pipeline.afterTail₀
  simp only [hostOps1, List.flatten_cons, List.flatten_nil, List.append_nil]
  after_results
  have e : Pipeline.withArrays (cfgs 0).spec c (V0 m c) (fun w => (data m 0 c).arrAt w (cfgs 0).N) (Proc.tc.devRef main_v5_3)
      = sample (found0 m c t0_0) (drawn0 m c) :=
    (Pipeline.withArrays_arr (cfgs 0).spec launch0.win.arr_inj c (V0 m c) _ 5).trans (array_sample0 m c)
  rw [e]
  rfl
theorem last_sample1 (c : Dev nD) : Pipeline.afterTail₀ cfgs (data m) 0 (V0 m) [hostOps1] c main_v7
    = shapeCast S128 (sample (found1 m c t0_0) (drawn1 m c)) shapeCasts_S128x1_S128 := by
  unfold Pipeline.afterTail₀
  simp only [hostOps1, List.flatten_cons, List.flatten_nil, List.append_nil]
  after_results
  have e : Pipeline.withArrays (cfgs 0).spec c (V0 m c) (fun w => (data m 0 c).arrAt w (cfgs 0).N) (Proc.tc.devRef main_v5_4)
      = sample (found1 m c t0_0) (drawn1 m c) :=
    (Pipeline.withArrays_arr (cfgs 0).spec launch0.win.arr_inj c (V0 m c) _ 6).trans (array_sample1 m c)
  rw [e]
  rfl
theorem last_sample2 (c : Dev nD) : Pipeline.afterTail₀ cfgs (data m) 0 (V0 m) [hostOps1] c main_v8
    = shapeCast S128 (sample (found2 m c t0_0) (drawn2 m c)) shapeCasts_S128x1_S128 := by
  unfold Pipeline.afterTail₀
  simp only [hostOps1, List.flatten_cons, List.flatten_nil, List.append_nil]
  after_results
  have e : Pipeline.withArrays (cfgs 0).spec c (V0 m c) (fun w => (data m 0 c).arrAt w (cfgs 0).N) (Proc.tc.devRef main_v5_5)
      = sample (found2 m c t0_0) (drawn2 m c) :=
    (Pipeline.withArrays_arr (cfgs 0).spec launch0.win.arr_inj c (V0 m c) _ 7).trans (array_sample2 m c)
  rw [e]
  rfl

/-- The later host lines leave the arguments which no window stages. -/
theorem last_kept (c : Dev nD) (b : Ref sig .tc) (hb : ∀ w, Pipeline.arrRef spec0 w ≠ b)
    (h6 : b ≠ main_v6) (h7 : b ≠ main_v7) (h8 : b ≠ main_v8) :
    Pipeline.afterTail₀ cfgs (data m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h6, StableHlo.devRef_ne_of_ne h7, StableHlo.devRef_ne_of_ne h8⟩)),
    Pipeline.withArrays_of_ne _ c (V0 m c) _ b hb]

/-! ## The run -/

/-- Every run ends with the heads' probabilities and samples in the results, the arguments as they were and every
    semaphore at zero. -/
theorem run_values : θ_run defs (onTc (τ := τ) (main (F := F))) ⟨m, fun _ => 0, ρ⟩ (fun r => (∀ c : Dev nD,
      r.2.mem ((c.tc : Thread nD τ).loc main_v5_0) = probs (found0 m c t0_0)
      ∧ r.2.mem ((c.tc : Thread nD τ).loc main_v5_1) = probs (found1 m c t0_0)
      ∧ r.2.mem ((c.tc : Thread nD τ).loc main_v5_2) = probs (found2 m c t0_0)
      ∧ r.2.mem ((c.tc : Thread nD τ).loc main_v6) = shapeCast S128 (sample (found0 m c t0_0) (drawn0 m c)) shapeCasts_S128x1_S128
      ∧ r.2.mem ((c.tc : Thread nD τ).loc main_v7) = shapeCast S128 (sample (found1 m c t0_0) (drawn1 m c)) shapeCasts_S128x1_S128
      ∧ r.2.mem ((c.tc : Thread nD τ).loc main_v8) = shapeCast S128 (sample (found2 m c t0_0) (drawn2 m c)) shapeCasts_S128x1_S128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    have kept : ∀ b : Ref sig .tc, b ∈ Pipeline.restRefs sig spec0 → (∀ w, Pipeline.arrRef spec0 w ≠ b) → b ≠ main_v6 → b ≠ main_v7 → b ≠ main_v8 →
        r.2.mem ((c.tc : Thread nD τ).loc b) = V m c b := fun b hr hb h6 h7 h8 => ((h.1 c).2 b hr).trans (last_kept m c b hb h6 h7 h8)
    ⟨((h.1 c).1 2).trans (array_probs0 m c),
      ((h.1 c).1 3).trans (array_probs1 m c),
      ((h.1 c).1 4).trans (array_probs2 m c),
      ((h.1 c).2 main_v6 (Pipeline.mem_restRefs_of main_v6 (by decide) (by decide))).trans (last_sample0 m c),
      ((h.1 c).2 main_v7 (Pipeline.mem_restRefs_of main_v7 (by decide) (by decide))).trans (last_sample1 m c),
      ((h.1 c).2 main_v8 (Pipeline.mem_restRefs_of main_v8 (by decide) (by decide))).trans (last_sample2 m c),
      ((h.1 c).1 0).trans (((data m 0 c).arrAt_in 0 rfl _).trans ((data_A m c 0).trans (V_main_arg0 m c))),
      (kept main_arg1 (Pipeline.mem_restRefs_of main_arg1 (by decide) (by decide)) (by decide) (by decide) (by decide) (by decide)).trans (V_main_arg1 m c),
      (kept main_arg2 (Pipeline.mem_restRefs_of main_arg2 (by decide) (by decide)) (by decide) (by decide) (by decide) (by decide)).trans (V_main_arg2 m c),
      (kept main_arg3 (Pipeline.mem_restRefs_of main_arg3 (by decide) (by decide)) (by decide) (by decide) (by decide) (by decide)).trans (V_main_arg3 m c),
      (kept main_arg4 (Pipeline.mem_restRefs_of main_arg4 (by decide) (by decide)) (by decide) (by decide) (by decide) (by decide)).trans (V_main_arg4 m c),
      (kept main_arg5 (Pipeline.mem_restRefs_of main_arg5 (by decide) (by decide)) (by decide) (by decide) (by decide) (by decide)).trans (V_main_arg5 m c),
      (kept main_arg6 (Pipeline.mem_restRefs_of main_arg6 (by decide) (by decide)) (by decide) (by decide) (by decide) (by decide)).trans (V_main_arg6 m c),
      (kept main_arg7 (Pipeline.mem_restRefs_of main_arg7 (by decide) (by decide)) (by decide) (by decide) (by decide) (by decide)).trans (V_main_arg7 m c)⟩, h.2⟩) (run_full m ρ)

/-! ## What the region finds -/

/-- The block of the rows' window is the argument. -/
theorem block_x (c : Dev nD) : iblk m c 0 t0_0 = m ((c.tc : Thread nD τ).loc main_arg0) := by
  rw [← V_main_arg0 m c]
  funext j
  unfold iblk
  show V m c main_arg0 (((cfg0.win 0).blk t0_0).view.emb j) = V m c main_arg0 j
  congr 1
  funext a
  apply Fin.ext
  have e : ∀ a, win0_0.index t0_0 a = 0 := by decide +kernel
  blk_simp
  rw [e a, Nat.zero_mul, Nat.zero_add]

/-- The block of the biases' window is what the earlier host lines made. -/
theorem block_b (c : Dev nD) : iblk m c 1 t0_0 = V m c main_v4 := by
  funext j
  unfold iblk
  show V m c main_v4 (((cfg0.win 1).blk t0_0).view.emb j) = V m c main_v4 j
  congr 1
  funext a
  apply Fin.ext
  have e : ∀ a, win0_1.index t0_0 a = 0 := by decide +kernel
  blk_simp
  rw [e a, Nat.zero_mul, Nat.zero_add]

/-- The earlier host lines stack the three biases. -/
theorem stacked (c : Dev nD) : V m c main_v4 = shapeCast S3x1x1000
    (concatenate S3x1000 0
      [⟨S1x1000, (broadcastInDim S1x1000 ![1] bcast_S1000_S1x1000_1 (m ((c.tc : Thread nD τ).loc main_arg2)) : FVec F S1x1000 .f32)⟩,
       ⟨S1x1000, (broadcastInDim S1x1000 ![1] bcast_S1000_S1x1000_1 (m ((c.tc : Thread nD τ).loc main_arg4)) : FVec F S1x1000 .f32)⟩,
       ⟨S1x1000, (broadcastInDim S1x1000 ![1] bcast_S1000_S1x1000_1 (m ((c.tc : Thread nD τ).loc main_arg6)) : FVec F S1x1000 .f32)⟩]
      concatenates_S1x1000_S1x1000_S1x1000_S3x1000_d0)
    shapeCasts_S3x1000_S3x1x1000 := by
  unfold V V0
  simp only [hostOps0, List.flatten_cons, List.flatten_nil, List.append_nil]
  after_results
  rfl

end Cert.KernelIdeal.Hand

end
-- ==== Proof.Search.lean ====
/- A search for the greatest number with a property, one binary digit at a time. -/
module

public import Mathlib.Data.List.Range
public import Mathlib.Algebra.Order.Group.Nat
public import Mathlib.Tactic.Ring
public import Mathlib.Tactic.Positivity

@[expose] public section

namespace TopK

/-- One round: the digit is taken where the number with it still has the property. -/
def take (Q : ℕ → Prop) [DecidablePred Q] (p i : ℕ) : ℕ := if Q (p + 2 ^ i) then p + 2 ^ i else p

/-- The rounds from the digit `n - 1` down to the lowest end with the greatest number which has the property, where
    the property passes to smaller numbers and nothing at or above `p + 2 ^ n` has it. -/
theorem take_spec (Q : ℕ → Prop) [DecidablePred Q] (N : ℕ) (hdown : ∀ a b, a ≤ b → b < N → Q b → Q a) :
    ∀ n p, p + 2 ^ n ≤ N → Q p → (∀ q, q < N → Q q → q < p + 2 ^ n) →
      (List.range n).reverse.foldl (take Q) p < N ∧ Q ((List.range n).reverse.foldl (take Q) p)
        ∧ ∀ q, q < N → Q q → q ≤ (List.range n).reverse.foldl (take Q) p := by
  intro n
  induction n with
  | zero =>
    intro p hp hQ hmax
    refine ⟨by simp only [pow_zero] at hp; simpa [Nat.lt_iff_add_one_le] using hp, by simpa using hQ, fun q hq hqq => ?_⟩
    have := hmax q hq hqq
    simp only [pow_zero] at this
    simp only [List.range_zero, List.reverse_nil, List.foldl_nil]
    omega
  | succ n ih =>
    intro p hp hQ hmax
    have h2 : (2 : ℕ) ^ (n + 1) = 2 ^ n + 2 ^ n := by ring
    have h0 : 0 < (2 : ℕ) ^ n := by positivity
    rw [List.range_succ, List.reverse_append, List.reverse_singleton, List.singleton_append, List.foldl_cons]
    unfold take
    rw [h2] at hp hmax
    split
    · rename_i h
      exact ih _ (by omega) h fun q hq hqq => by have := hmax q hq hqq; omega
    · rename_i h
      refine ih _ (by omega) hQ fun q hq hqq => ?_
      by_contra hge
      exact h (hdown _ q (by omega) hq hqq)

/-- A run of rounds on other data which follows the rounds on numbers ends with data for what the numbers end with. -/
theorem take_follow {α : Type} (Q : ℕ → Prop) [DecidablePred Q] (N : ℕ) (f : α → ℕ → α) (R : α → ℕ → Prop)
    (hf : ∀ x p i, R x p → p + 2 ^ i < N → R (f x i) (take Q p i)) :
    ∀ n x p, R x p → p + 2 ^ n ≤ N → R ((List.range n).reverse.foldl f x) ((List.range n).reverse.foldl (take Q) p) := by
  intro n
  induction n with
  | zero => intro x p h _; exact h
  | succ n ih =>
    intro x p h hp
    have h2 : (2 : ℕ) ^ (n + 1) = 2 ^ n + 2 ^ n := by ring
    have h0 : 0 < (2 : ℕ) ^ n := by positivity
    rw [List.range_succ, List.reverse_append, List.reverse_singleton, List.singleton_append, List.foldl_cons,
      List.foldl_cons]
    refine ih _ _ (hf x p n h (by omega)) ?_
    unfold take
    split <;> omega

end TopK
-- ==== Proof.Keys.lean ====
/- The extended real which a key of the search stands for: its order, the word it is read from, and how close to a
   given real the keys come. A key is counted from the least one, so that it is a number below 2 ^ 32. -/
module

public import Idealize.ShloMosaic.PureOps.Ideal
public import Mathlib.Tactic.Linarith
public import Mathlib.Tactic.Positivity
public import Mathlib.Tactic.FieldSimp

@[expose] public section

set_option maxRecDepth 100000

noncomputable section

namespace TopK

open Idealize.ShloMosaic

/-- The significand of the `n`-th magnitude. -/
def sig (n : ℕ) : ℕ := if n / 8388608 = 0 then n else 8388608 + n % 8388608

/-- The distance from the `n`-th magnitude to the next. -/
def ulp (n : ℕ) : ℝ := (2 : ℝ) ^ ((max (n / 8388608) 1 : ℕ) - 150 : ℤ)

/-- The `n`-th finite magnitude of a 32-bit float. -/
def mag (n : ℕ) : ℝ := (sig n : ℝ) * ulp n

theorem ulp_pos (n : ℕ) : 0 < ulp n := by unfold ulp; positivity

theorem mag_zero : mag 0 = 0 := by simp [mag, sig]

/-- Each magnitude is one step above the one before it. -/
theorem mag_succ (n : ℕ) : mag (n + 1) = mag n + ulp n := by
  by_cases hq : (n + 1) / 8388608 = n / 8388608
  · have hu : ulp (n + 1) = ulp n := by unfold ulp; rw [hq]
    have hs : sig (n + 1) = sig n + 1 := by unfold sig; rw [hq]; split <;> omega
    unfold mag
    rw [hu, hs]; push_cast; ring
  · obtain ⟨E, hE⟩ : ∃ E, n = 8388608 * E + 8388607 := ⟨n / 8388608, by omega⟩
    subst hE
    have e1 : (8388608 * E + 8388607 + 1) / 8388608 = E + 1 := by omega
    have e2 : (8388608 * E + 8388607) / 8388608 = E := by omega
    have s1 : sig (8388608 * E + 8388607 + 1) = 8388608 := by unfold sig; rw [e1]; rw [if_neg (by omega)]; omega
    unfold mag
    rw [s1]
    unfold ulp
    rw [e1, e2]
    rcases Nat.eq_zero_or_pos E with h | h
    · subst h
      have s2 : sig (8388608 * 0 + 8388607) = 8388607 := by decide
      rw [s2]
      norm_num
    · have s2 : sig (8388608 * E + 8388607) = 16777215 := by unfold sig; rw [e2, if_neg (by omega)]; omega
      rw [s2, Nat.max_eq_left (by omega), Nat.max_eq_left (by omega)]
      have : ((2 : ℝ) ^ (((E + 1 : ℕ) : ℤ) - 150)) = 2 * (2 : ℝ) ^ ((E : ℤ) - 150) := by
        rw [show (((E + 1 : ℕ) : ℤ) - 150) = 1 + ((E : ℤ) - 150) by push_cast; ring, zpow_add₀ (by norm_num), zpow_one]
      rw [this]; push_cast; ring

theorem mag_mono : StrictMono mag := strictMono_nat_of_lt_succ fun n => by
  rw [mag_succ]; linarith [ulp_pos n]

theorem mag_nonneg (n : ℕ) : 0 ≤ mag n := by unfold mag; have := ulp_pos n; positivity

/-- The step is small beside the magnitude, except among the least of them. -/
theorem ulp_le (n : ℕ) : ulp n ≤ (2 : ℝ) ^ (-23 : ℤ) * max (mag n) ((2 : ℝ) ^ (-126 : ℤ)) := by
  rcases Nat.eq_zero_or_pos (n / 8388608) with h | h
  · have e : ulp n = (2 : ℝ) ^ (-23 : ℤ) * (2 : ℝ) ^ (-126 : ℤ) := by
      unfold ulp; rw [h, ← zpow_add₀ (by norm_num)]; norm_num
    rw [e]
    exact mul_le_mul_of_nonneg_left (le_max_right _ _) (by positivity)
  · have hs : (8388608 : ℝ) ≤ (sig n : ℝ) := by
      have : 8388608 ≤ sig n := by unfold sig; rw [if_neg (by omega)]; omega
      exact_mod_cast this
    have e : ulp n = (2 : ℝ) ^ (-23 : ℤ) * (8388608 * ulp n) := by
      rw [← mul_assoc, show ((2 : ℝ) ^ (-23 : ℤ) * 8388608) = 1 by norm_num, one_mul]
    rw [e]
    refine mul_le_mul_of_nonneg_left (le_trans ?_ (le_max_left _ _)) (by positivity)
    exact mul_le_mul_of_nonneg_right hs (ulp_pos n).le

theorem mag_top : mag 2130706432 = (2 : ℝ) ^ (127 : ℤ) := by
  have : sig 2130706432 = 8388608 := by decide
  unfold mag ulp; rw [this]; norm_num

/-- The extended real the `u`-th key stands for. -/
def key (u : ℕ) : EReal :=
  if u < 2147483648 then (if 2147483647 - u < 2139095040 then ((-mag (2147483647 - u) : ℝ) : EReal) else ⊥)
  else (if u - 2147483648 < 2139095040 then ((mag (u - 2147483648) : ℝ) : EReal) else ⊤)

theorem key_mono : Monotone key := monotone_nat_of_le_succ fun u => by
  unfold key
  by_cases h : u + 1 < 2147483648
  · rw [if_pos h, if_pos (by omega)]
    by_cases h1 : 2147483647 - u < 2139095040
    · rw [if_pos h1, if_pos (by omega), EReal.coe_le_coe_iff, neg_le_neg_iff]
      exact mag_mono.monotone (by omega)
    · rw [if_neg h1]; exact bot_le
  · rw [if_neg h]
    by_cases h1 : u < 2147483648
    · obtain rfl : u = 2147483647 := by omega
      rw [if_pos h1, if_pos (by decide), if_pos (by decide), show 2147483647 - 2147483647 = 0 from rfl, mag_zero]
      simp [mag_zero]
    · obtain ⟨c, rfl⟩ : ∃ c, u = c + 2147483648 := ⟨u - 2147483648, by omega⟩
      rw [if_neg h1, Nat.add_right_comm, Nat.add_sub_cancel, Nat.add_sub_cancel]
      by_cases h2 : c + 1 < 2139095040
      · rw [if_pos h2, if_pos (by omega), EReal.coe_le_coe_iff]
        exact mag_mono.monotone (Nat.le_succ c)
      · rw [if_neg h2]; exact le_top

theorem key_zero : key 0 = ⊥ := by unfold key; norm_num

/-- The word a key is read from. -/
def word (x : BitVec 32) : BitVec 32 := if (0#32).sle x then x else x ^^^ 2147483647#32

theorem xor_low (u : ℕ) (h : u < 2147483648) : (u + 2147483648) ^^^ 2147483647 = 2147483648 + (2147483647 - u) := by
  refine Nat.eq_of_testBit_eq fun i => ?_
  have e1 : (2147483647 : ℕ) = 2 ^ 31 - (0 + 1) := by norm_num
  have e2 : 2147483647 - u = 2 ^ 31 - (u + 1) := by omega
  rw [Nat.testBit_xor, Nat.add_comm u, show (2147483648 : ℕ) = 2 ^ 31 by norm_num]
  rcases lt_trichotomy i 31 with hi | hi | hi
  · rw [Nat.testBit_two_pow_add_gt hi, Nat.testBit_two_pow_add_gt hi, e1, Nat.testBit_two_pow_sub_succ (by norm_num)]
    rw [show 2 ^ 31 - (0 + 1) - u = 2 ^ 31 - (u + 1) by omega, Nat.testBit_two_pow_sub_succ (by omega)]
    simp [hi]
  · subst hi
    rw [Nat.testBit_two_pow_add_eq, Nat.testBit_two_pow_add_eq, Nat.testBit_lt_two_pow (by omega),
      Nat.testBit_lt_two_pow (by norm_num), Nat.testBit_lt_two_pow (by omega)]
    rfl
  · have hp : (2 : ℕ) ^ 32 ≤ 2 ^ i := Nat.pow_le_pow_right (by norm_num) (by omega)
    rw [Nat.testBit_lt_two_pow (by omega), Nat.testBit_lt_two_pow (by omega), Nat.testBit_lt_two_pow (by omega)]
    rfl

theorem toNat_key (u : ℕ) (h : u < 4294967296) :
    (BitVec.ofNat 32 (u + 2147483648)).toNat = if u < 2147483648 then u + 2147483648 else u - 2147483648 := by
  rw [BitVec.toNat_ofNat]; split <;> omega

theorem toInt_low (b : BitVec 32) (c : ℕ) (h : b.toNat = c) (hc : c < 2147483648) : b.toInt = c := by
  rw [BitVec.toInt_eq_toNat_cond, h, if_pos (by omega)]

theorem toInt_high (b : BitVec 32) (c : ℕ) (h : b.toNat = c) (hc : 2147483648 ≤ c) : b.toInt = c - 4294967296 := by
  rw [BitVec.toInt_eq_toNat_cond, h, if_neg (by omega)]; rfl

theorem word_low (u : ℕ) (h : u < 2147483648) :
    (word (BitVec.ofNat 32 (u + 2147483648))).toNat = 2147483648 + (2147483647 - u) := by
  have ht := toNat_key u (by omega)
  rw [if_pos h] at ht
  unfold word
  rw [if_neg, BitVec.toNat_xor, ht]
  · exact xor_low u h
  · rw [BitVec.sle_iff_toInt_le, toInt_high _ _ ht (by omega), show (0#32).toInt = 0 from rfl]
    push_cast; omega

theorem word_high (u : ℕ) (h : 2147483648 ≤ u) (h' : u < 4294967296) :
    (word (BitVec.ofNat 32 (u + 2147483648))).toNat = u - 2147483648 := by
  have ht := toNat_key u h'
  rw [if_neg (by omega)] at ht
  unfold word
  rw [if_pos, ht]
  have hc : u - 2147483648 < 2147483648 := by omega
  rw [BitVec.sle_iff_toInt_le, toInt_low _ _ ht hc, show (0#32).toInt = 0 from rfl]
  exact Int.natCast_nonneg _

/-- The reading of a 32-bit float word by its number. -/
theorem ieee_of_toNat (b : BitVec 32) (n : ℕ) (hn : n < 2147483648) (s : Bool)
    (hb : b.toNat = (if s then 2147483648 else 0) + n) :
    Ideal.ieee 8 23 b = if n < 2139095040 then (((if s then -1 else 1) * mag n : ℝ) : EReal)
      else if n = 2139095040 then (if s then ⊥ else ⊤) else ⊥ := by
  have hneg : (b.extractLsb' (8 + 23) 1 == 1#1) = s := by
    rw [Bool.eq_iff_iff, beq_iff_eq, ← BitVec.toNat_inj, BitVec.extractLsb'_toNat, hb, Nat.shiftRight_eq_div_pow]
    cases s <;> norm_num <;> omega
  have hex : (b.extractLsb' 23 8).toNat = n / 8388608 := by
    rw [BitVec.extractLsb'_toNat, hb, Nat.shiftRight_eq_div_pow]
    cases s <;> norm_num <;> omega
  have hfr : (b.extractLsb' 0 23).toNat = n % 8388608 := by
    rw [BitVec.extractLsb'_toNat, hb, Nat.shiftRight_eq_div_pow]
    cases s <;> norm_num <;> omega
  unfold Ideal.ieee
  simp only [hneg, hex, hfr]
  by_cases h1 : n < 2139095040
  · rw [if_neg (by norm_num; omega), if_pos h1]
    by_cases h0 : n / 8388608 = 0
    · rw [if_pos h0]
      unfold mag sig ulp
      rw [if_pos h0, h0, show n % 8388608 = n by omega]
      norm_num
    · rw [if_neg h0]
      unfold mag sig ulp
      rw [if_neg h0, Nat.max_eq_left (by omega)]
      rw [show (((n / 8388608 : ℕ) : ℤ) - (2 ^ (8 - 1) - 1) - (23 : ℕ)) = ((n / 8388608 : ℕ) : ℤ) - 150 by norm_num; ring]
      norm_num
      congr 1
      ring
  · rw [if_pos (by norm_num; omega), if_neg h1]
    by_cases h2 : n = 2139095040
    · subst h2; norm_num
    · rw [if_neg (by omega), if_neg h2]

/-- The word of a key reads as what the key stands for. -/
theorem ofBits_word (u : ℕ) (h : u ≤ 4286578688) :
    Ideal.ofBits .f32 (word (BitVec.ofNat 32 (u + 2147483648))) = key u := by
  show Ideal.ieee 8 23 _ = _
  unfold key
  by_cases h1 : u < 2147483648
  · rw [ieee_of_toNat _ (2147483647 - u) (by omega) true (by rw [word_low u h1]; rfl), if_pos h1]
    split
    · norm_num
    · split <;> rfl
  · rw [ieee_of_toNat _ (u - 2147483648) (by omega) false (by rw [word_high u (by omega) (by omega)]; simp), if_neg h1]
    split
    · norm_num
    · rw [if_pos (by omega)]; rfl

/-- A key is a legal one where its word is, signed, at most the word of infinity. -/
theorem legal_iff (u : ℕ) (h : u < 4294967296) :
    (BitVec.ofNat 32 (u + 2147483648)).sle 2139095040#32 = true ↔ u ≤ 4286578688 := by
  have ht := toNat_key u h
  rw [BitVec.sle_iff_toInt_le, show (2139095040#32).toInt = 2139095040 from rfl]
  by_cases h1 : u < 2147483648
  · rw [if_pos h1] at ht
    rw [toInt_high _ _ ht (by omega)]
    push_cast; omega
  · rw [if_neg h1] at ht
    have hc : u - 2147483648 < 2147483648 := by omega
    rw [toInt_low _ _ ht hc]
    omega

/-- The greater, signed, of a key's word and the word of minus infinity is the word of the greater key. -/
theorem maxsi_key (u : ℕ) (h : u < 4294967296) :
    IntOp.maxsi (BitVec.ofNat 32 (u + 2147483648)) 2155872255#32 = BitVec.ofNat 32 (max u 8388607 + 2147483648) := by
  have ht := toNat_key u h
  have e : (2155872255#32).slt (BitVec.ofNat 32 (u + 2147483648)) = true ↔ 8388607 < u := by
    rw [BitVec.slt_iff_toInt_lt, show (2155872255#32).toInt = -2139095041 from rfl]
    by_cases h1 : u < 2147483648
    · rw [if_pos h1] at ht
      rw [toInt_high _ _ ht (by omega)]
      push_cast; omega
    · rw [if_neg h1] at ht
      rw [toInt_low _ _ ht (by omega)]
      push_cast; omega
  unfold IntOp.maxsi
  by_cases h1 : 8388607 < u
  · rw [max_eq_left (by omega), if_pos (e.mpr h1)]
  · rw [max_eq_right (by omega), if_neg fun h' => h1 (e.mp h')]

/-- The keys up to that of minus infinity are read as minus infinity. -/
theorem key_max (u : ℕ) : key (max u 8388607) = key u := by
  by_cases h : u < 8388607
  · rw [max_eq_right (by omega)]
    unfold key
    rw [if_pos (by omega), if_neg (by omega), if_pos (by omega), if_neg (by omega)]
  · rw [max_eq_left (by omega)]

/-- Below every real of moderate size there is a legal key which is close to it. -/
theorem key_near (x : ℝ) (hx : |x| ≤ (2 : ℝ) ^ (127 : ℤ)) : ∃ u, u ≤ 4286578688 ∧ key u ≤ (x : EReal)
    ∧ ((x - (2 : ℝ) ^ (-23 : ℤ) * max |x| ((2 : ℝ) ^ (-126 : ℤ)) : ℝ) : EReal) ≤ key u := by
  classical
  obtain ⟨n, hn, h1, h2⟩ : ∃ n, n ≤ 2130706432 ∧ mag n ≤ |x| ∧ |x| < mag (n + 1) := by
    refine ⟨Nat.findGreatest (fun n => mag n ≤ |x|) 2130706432, Nat.findGreatest_le _, ?_, ?_⟩
    · exact Nat.findGreatest_spec (P := fun n => mag n ≤ |x|) (m := 0) (Nat.zero_le _) (by rw [mag_zero]; exact abs_nonneg x)
    · by_contra hc
      have hc : mag (Nat.findGreatest (fun n => mag n ≤ |x|) 2130706432 + 1) ≤ |x| := not_lt.mp hc
      have hle : Nat.findGreatest (fun n => mag n ≤ |x|) 2130706432 + 1 ≤ 2130706432 := by
        have : mag (Nat.findGreatest (fun n => mag n ≤ |x|) 2130706432 + 1) ≤ mag 2130706432 := by
          rw [mag_top]; exact hc.trans hx
        exact mag_mono.le_iff_le.mp this
      have := Nat.le_findGreatest (P := fun n => mag n ≤ |x|) hle hc
      omega
  have hu : ulp n ≤ (2 : ℝ) ^ (-23 : ℤ) * max |x| ((2 : ℝ) ^ (-126 : ℤ)) :=
    (ulp_le n).trans (mul_le_mul_of_nonneg_left (max_le_max h1 le_rfl) (by positivity))
  have hs := mag_succ n
  rcases le_or_gt 0 x with h0 | h0
  · rw [abs_of_nonneg h0] at h1 h2 hu ⊢
    have e : key (n + 2147483648) = ((mag n : ℝ) : EReal) := by
      unfold key; rw [if_neg (by omega), Nat.add_sub_cancel, if_pos (by omega)]
    refine ⟨n + 2147483648, by omega, ?_, ?_⟩
    · rw [e, EReal.coe_le_coe_iff]; exact h1
    · rw [e, EReal.coe_le_coe_iff]; linarith
  · rw [abs_of_neg h0] at h1 h2 hu ⊢
    have e : key (2147483647 - (n + 1)) = ((-mag (n + 1) : ℝ) : EReal) := by
      unfold key
      rw [if_pos (by omega), show 2147483647 - (2147483647 - (n + 1)) = n + 1 by omega, if_pos (by omega)]
    refine ⟨2147483647 - (n + 1), by omega, ?_, ?_⟩
    · rw [e, EReal.coe_le_coe_iff]; linarith
    · rw [e, EReal.coe_le_coe_iff]; linarith

end TopK

end
-- ==== Proof.TopSet.lean ====
/- A row of a thousand extended reals: the greatest key which a hundred of them reach picks out exactly the hundred
   which a sort puts first, where the hundredth of them and the next lie apart. -/
module

public import proofs.«01_k».proof.Proof.Search
public import proofs.«01_k».proof.Proof.Keys
public import Mathlib.Data.Finset.Fold
public import Mathlib.Data.Fintype.Card
public import Mathlib.Order.Interval.Finset.Fin

@[expose] public section

noncomputable section

namespace TopK

open Classical in
/-- How many entries of the row reach the key. -/
def atLeast (l : Fin 1000 → EReal) (u : ℕ) : ℕ := (Finset.univ.filter fun j => key u ≤ l j).card

/-- The key is a legal one and a hundred entries reach it. -/
def Enough (l : Fin 1000 → EReal) (u : ℕ) : Prop := u ≤ 4286578688 ∧ 100 ≤ atLeast l u

instance (l : Fin 1000 → EReal) : DecidablePred (Enough l) := fun u => inferInstanceAs (Decidable (_ ∧ _))

/-- The key which the search ends with. -/
def best (l : Fin 1000 → EReal) : ℕ := (List.range 32).reverse.foldl (take (Enough l)) 0

theorem atLeast_anti (l : Fin 1000 → EReal) {a b : ℕ} (h : a ≤ b) : atLeast l b ≤ atLeast l a :=
  Finset.card_le_card fun j hj => by
    rw [Finset.mem_filter] at hj ⊢
    exact ⟨hj.1, (key_mono h).trans hj.2⟩

theorem atLeast_le (l : Fin 1000 → EReal) (u : ℕ) : atLeast l u ≤ 1000 :=
  (Finset.card_filter_le _ _).trans (by simp)

theorem best_spec (l : Fin 1000 → EReal) : best l < 4294967296 ∧ Enough l (best l) ∧ ∀ q, Enough l q → q ≤ best l := by
  have h := take_spec (Enough l) 4294967296 (fun a b hab _ hb => ⟨hab.trans hb.1, hb.2.trans (atLeast_anti l hab)⟩) 32 0
    (by norm_num) ⟨by norm_num, by simp [atLeast, key_zero]⟩ (fun q hq _ => by norm_num; omega)
  exact ⟨h.1, h.2.1, fun q hq => h.2.2 q (lt_of_le_of_lt hq.1 (by norm_num)) hq⟩

/-- The hundredth value is of moderate size and the next lies below it by more than the keys' distance there. -/
def Apart (a b : EReal) : Prop :=
  max a (-a) ≤ (((2 : ℝ) ^ (127 : ℤ) : ℝ) : EReal)
    ∧ b < a - (((2 : ℝ) ^ (-22 : ℤ) : ℝ) : EReal) * max (max a (-a)) (((2 : ℝ) ^ (-126 : ℤ) : ℝ) : EReal)

/-- A legal key which the first value reaches and the second does not. -/
theorem key_between {a b : EReal} (h : Apart a b) : ∃ u, u ≤ 4286578688 ∧ key u ≤ a ∧ b < key u := by
  obtain ⟨h1, h2⟩ := h
  induction a with
  | bot =>
    rw [EReal.neg_bot, max_eq_right bot_le, top_le_iff] at h1
    exact absurd h1 (EReal.coe_ne_top _)
  | top =>
    rw [EReal.neg_top, max_eq_left bot_le, top_le_iff] at h1
    exact absurd h1 (EReal.coe_ne_top _)
  | coe x =>
    have hm : ∀ x y : ℝ, max (x : EReal) (y : EReal) = ((max x y : ℝ) : EReal) := fun x y =>
      (EReal.coe_strictMono.monotone.map_max).symm
    have e : max (x : EReal) (-(x : EReal)) = ((|x| : ℝ) : EReal) := by
      rw [← EReal.coe_neg, hm]; rfl
    rw [e] at h1 h2
    rw [EReal.coe_le_coe_iff] at h1
    rw [hm, ← EReal.coe_mul, ← EReal.coe_sub] at h2
    obtain ⟨u, hu, hk, hl⟩ := key_near x h1
    refine ⟨u, hu, hk, h2.trans_le (le_trans ?_ hl)⟩
    rw [EReal.coe_le_coe_iff]
    have hp : 0 ≤ max |x| ((2 : ℝ) ^ (-126 : ℤ)) := le_max_of_le_left (abs_nonneg x)
    have : (2 : ℝ) ^ (-23 : ℤ) * max |x| ((2 : ℝ) ^ (-126 : ℤ)) ≤ (2 : ℝ) ^ (-22 : ℤ) * max |x| ((2 : ℝ) ^ (-126 : ℤ)) :=
      mul_le_mul_of_nonneg_right (by norm_num) hp
    linarith

section Sorted

variable (l : Fin 1000 → EReal) (π : Fin 1000 → Fin 1000) (hinj : Function.Injective π)
  (hanti : ∀ i j, i < j → l (π j) ≤ l (π i))

include hinj hanti

/-- The entries which reach the key that the search ends with are the first hundred of the sorted row. -/
theorem kept_iff (hap : Apart (l (π 99)) (l (π 100))) (j : Fin 1000) :
    key (best l) ≤ l j ↔ ∃ k : Fin 1000, k.val < 100 ∧ π k = j := by
  classical
  have hanti' : ∀ i j, i ≤ j → l (π j) ≤ l (π i) := fun i j h => by
    rcases h.lt_or_eq with h | h
    · exact hanti i j h
    · rw [h]
  have hsurj : Function.Surjective π := Finite.injective_iff_surjective.mp hinj
  set T : Finset (Fin 1000) := (Finset.univ.filter fun k : Fin 1000 => k.val < 100).image π with hT
  have hTc : T.card = 100 := by
    rw [hT, Finset.card_image_of_injective _ hinj]
    exact (Fin.card_filter_val_lt).trans (by norm_num)
  have hTm : ∀ j, j ∈ T ↔ ∃ k : Fin 1000, k.val < 100 ∧ π k = j := fun j => by simp [hT]
  obtain ⟨hb, ⟨hlegal, hcount⟩, hmax⟩ := best_spec l
  obtain ⟨u, hu, hk, hl⟩ := key_between hap
  have hule : u ≤ best l := by
    refine hmax u ⟨hu, ?_⟩
    rw [← hTc]
    refine Finset.card_le_card fun j hj => ?_
    obtain ⟨k, hk1, rfl⟩ := (hTm j).mp hj
    rw [Finset.mem_filter]
    exact ⟨Finset.mem_univ _, hk.trans (hanti' k 99 (by rw [Fin.le_def]; show k.val ≤ 99; omega))⟩
  have hnext : l (π 100) < key (best l) := hl.trans_le (key_mono hule)
  have hsub : (Finset.univ.filter fun j => key (best l) ≤ l j) ⊆ T := fun j hj => by
    rw [Finset.mem_filter] at hj
    obtain ⟨k, rfl⟩ := hsurj j
    refine (hTm _).mpr ⟨k, ?_, rfl⟩
    by_contra hge
    exact absurd (hj.2.trans (hanti' 100 k (by rw [Fin.le_def]; show 100 ≤ k.val; omega))) (not_le.mpr hnext)
  have heq : (Finset.univ.filter fun j => key (best l) ≤ l j) = T :=
    Finset.eq_of_subset_of_card_le hsub (by rw [hTc]; exact hcount)
  rw [← hTm, ← heq, Finset.mem_filter]
  exact ⟨fun h => ⟨Finset.mem_univ _, h⟩, fun h => h.2⟩

end Sorted

/-- The greatest entry of a row. -/
def top (f : Fin 1000 → EReal) : EReal := Finset.univ.fold max ⊥ f

theorem le_top_of (f : Fin 1000 → EReal) (j : Fin 1000) : f j ≤ top f :=
  (Finset.le_fold_max _).mpr (.inr ⟨j, Finset.mem_univ _, le_rfl⟩)

theorem top_le {f : Fin 1000 → EReal} {M : EReal} (h : ∀ j, f j ≤ M) : top f ≤ M :=
  (Finset.fold_max_le _).mpr ⟨bot_le, fun j _ => h j⟩

open Classical in
/-- A row with minus infinity where an entry doesn't reach the key. -/
def filtered (l : Fin 1000 → EReal) (j : Fin 1000) : EReal := if key (best l) ≤ l j then l j else ⊥

/-- What is left out does not change the greatest entry. -/
theorem top_filtered (l : Fin 1000 → EReal) : top (filtered l) = top l := by
  classical
  refine le_antisymm (top_le fun j => ?_) (top_le fun j => ?_)
  · unfold filtered
    split
    · exact le_top_of l j
    · exact bot_le
  · by_cases h : key (best l) ≤ l j
    · have := le_top_of (filtered l) j
      unfold filtered at this
      rwa [if_pos h] at this
    · obtain ⟨_, ⟨_, hc⟩, _⟩ := best_spec l
      obtain ⟨i, hi⟩ : (Finset.univ.filter fun j => key (best l) ≤ l j).Nonempty :=
        Finset.card_pos.mp (lt_of_lt_of_le (by norm_num) hc)
      rw [Finset.mem_filter] at hi
      have := le_top_of (filtered l) i
      unfold filtered at this
      rw [if_pos hi.2] at this
      exact ((not_le.mp h).le.trans hi.2).trans this

/-- The first place of a row where its entries are greatest. -/
def IsFirst (x : Fin 1000 → EReal) (k : Fin 1000) : Prop := ∀ j, x j < x k ∨ (x j = x k ∧ k ≤ j)

theorem IsFirst.unique {x : Fin 1000 → EReal} {k k' : Fin 1000} (h : IsFirst x k) (h' : IsFirst x k') : k = k' := by
  rcases h k' with a | ⟨a, b⟩
  · rcases h' k with c | ⟨c, d⟩
    · exact absurd (a.trans c) (lt_irrefl _)
    · rw [c] at a; exact absurd a (lt_irrefl _)
  · rcases h' k with c | ⟨c, d⟩
    · rw [a] at c; exact absurd c (lt_irrefl _)
    · exact le_antisymm b d

theorem IsFirst.top_eq {x : Fin 1000 → EReal} {k : Fin 1000} (h : IsFirst x k) : top x = x k :=
  le_antisymm (top_le fun j => (h j).elim le_of_lt fun e => e.1.le) (le_top_of x k)

/-! ## What is made of a row -/

open Classical in
/-- The exponentials of the entries which reach the key over the row's greatest, zero elsewhere. -/
def raised (l : Fin 1000 → EReal) (j : Fin 1000) : EReal := if key (best l) ≤ l j then Idealize.ShloMosaic.Ideal.exp (l j - top l) else 0

open Classical in
/-- The entries which reach the key with the noise, minus infinity elsewhere. -/
def shaken (l g : Fin 1000 → EReal) (j : Fin 1000) : EReal := if key (best l) ≤ l j then l j + g j else ⊥

end TopK

end
-- ==== Proof.IdealRead.lean ====
/- What the kernel computes for one head at the extended reals, read one row at a time. -/
module

public import proofs.«01_k».proof.Proof.IdealHeads
public import proofs.«01_k».proof.Proof.TopSet
public import Idealize.ShloMosaic.PureOps.Ideal.Laws
public import Idealize.ShloMosaic.Lib.IndicatorCount
public import Idealize.ShloMosaic.Lib.ValueLayout
public import Idealize.ShloMosaic.Lib.WordCmp
public import Idealize.ShloMosaic.Lib.KernelVsHost

@[expose] public section

noncomputable section

namespace Cert.KernelIdeal.Hand

open Idealize.ShloMosaic Idealize.ShloMosaic.ValueIdx
open Cert.KernelIdeal.Gen
open TopK

/-! ## Layouts -/

/-- A row of a matrix. -/
abbrev row {α : Type} (x : S128x1000.Idx → α) (r : Fin 128) : Fin 1000 → α := fun j => x (ix2 r j)

theorem column_apply {α : Type} (x : S128x1.Idx → α) (r : Fin 128) (j : Fin 1000) :
    broadcastTo S128x1000 x broadcasts_S128x1_S128x1000 (ix2 r j) = x (ix2 r (0 : Fin 1)) :=
  broadcastTo_apply _ _ _ _ fun a => match a with
    | ⟨0, _⟩ => rfl
    | ⟨1, _⟩ => rfl

theorem stand_apply {α : Type} (x : S128.Idx → α) (r : Fin 128) :
    shapeCast S128x1 x shapeCasts_S128_S128x1 (ix2 r (0 : Fin 1)) = x (ix1 r) :=
  shapeCast_apply _ _ _ _ (by
    rw [Shape.rowMajor_val_one, Shape.rowMajor_val_two]
    show r.val = r.val * 1 + 0
    omega)

theorem lift_row (r : Fin 128) (k : Fin 1000) : (reduces_S128x1000_S128).lift (ix1 r) k = ix2 r k := by
  funext a
  match a with
    | ⟨0, _⟩ => rfl
    | ⟨1, _⟩ => rfl

theorem word_row (kind : IKind) (x : IVec S128x1000 32) (acc : BitVec 32) (hacc : acc = kind.neutral) (r : Fin 128) :
    multiReductionI kind [1] S128 x acc reduces_S128x1000_S128 hacc (ix1 r)
      = (Finset.univ : Finset (Fin 1000)).fold kind.op acc (row x r) := by
  refine (multiReductionI_eq_fold kind x acc reduces_S128x1000_S128 hacc (ix1 r)).trans ?_
  refine (reduces_S128x1000_S128.fold_filter_drop_single kind.op acc x (ix1 r)).trans ?_
  exact congrArg (Finset.fold kind.op acc · Finset.univ) (funext fun k => congrArg x (lift_row r k))

theorem sum_row (x : FVec Ideal S128x1000 .f32) (hacc : 0x00000000#32 = FKind.add.neutral .f32 (.inl rfl)) (r : Fin 128) :
    multiReduction .add [1] S128 x 0x00000000#32 reduces_S128x1000_S128 (.inl rfl) hacc (ix1 r) = ∑ k, row x r k :=
  (Ideal.multiReduction_add_single x _ reduces_S128x1000_S128 _ hacc (ix1 r)).trans
    (Finset.sum_congr rfl fun k _ => congrArg x (lift_row r k))

theorem top_row (x : FVec Ideal S128x1000 .f32) (hacc : 0xFF800000#32 = FKind.maximumf.neutral .f32 (.inl rfl)) (r : Fin 128) :
    multiReduction .maximumf [1] S128 x 0xFF800000#32 reduces_S128x1000_S128 (.inl rfl) hacc (ix1 r) = top (row x r) := by
  refine (Ideal.multiReduction_maximumf_single x _ reduces_S128x1000_S128 _ hacc (ix1 r)).trans ?_
  have e0 : (FloatOps.ofBits .f32 0xFF800000#32 : Ideal .f32) = (⊥ : EReal) := by
    show Ideal.ofBits .f32 _ = _
    simp [Ideal.ofBits, Ideal.ieee]
  rw [e0]
  exact congrArg (Finset.fold max (⊥ : EReal) · Finset.univ) (funext fun k => congrArg x (lift_row r k))

/-! ## Which logits reach a key -/

theorem word_eq (x : BitVec 32) :
    Scalar.select (IntOp.cmpi .sge x 0#32) x (IntOp.xori x 2147483647#32) = word x := by
  unfold Scalar.select word IntOp.cmpi
  simp only [WordCmp.ofBool_eq_one_iff']
  rfl

section Row

variable (l : FVec Ideal S128x1000 .f32) (r : Fin 128)

theorem reach_iff (cand : IVec S128x1 32) (j : Fin 1000) (u : ℕ) (hu : u < 4294967296)
    (hc : cand (ix2 r (0 : Fin 1)) = BitVec.ofNat 32 (u + 2147483648)) :
    reach l cand (ix2 r j) = 1#1 ↔ u ≤ 4286578688 ∧ key u ≤ row l r j := by
  have e1 := column_apply (cmpi .sle cand (broadcast S128x1 2139095040#32)) r j
  have e2 := column_apply (bound (F := Ideal) cand) r j
  have e : reach l cand (ix2 r j)
      = IntOp.andi (IntOp.cmpi .sle (cand (ix2 r (0 : Fin 1))) 2139095040#32)
          (Ideal.cmp .oge (l (ix2 r j)) (Ideal.ofBits .f32 (word (IntOp.maxsi (cand (ix2 r (0 : Fin 1))) 2155872255#32)))) := by
    rw [← word_eq]
    show IntOp.andi (broadcastTo S128x1000 _ _ (ix2 r j)) (FloatOps.cmpf .oge (l (ix2 r j)) (broadcastTo S128x1000 _ _ (ix2 r j))) = _
    rw [e1, e2]
    rfl
  rw [e, hc]
  unfold IntOp.cmpi Ideal.cmp
  simp only [WordCmp.andi_ofBool, WordCmp.ofBool_eq_one_iff, Bool.and_eq_true, decide_eq_true_eq]
  rw [legal_iff u hu, maxsi_key u hu]
  exact and_congr_right fun h => by rw [ofBits_word _ (max_le h (by norm_num)), key_max]

theorem count_eq (cand : IVec S128x1 32) (u : ℕ) (hu : u < 4294967296)
    (hc : cand (ix2 r (0 : Fin 1)) = BitVec.ofNat 32 (u + 2147483648)) :
    count l cand (ix2 r (0 : Fin 1)) = BitVec.ofNat 32 (if u ≤ 4286578688 then atLeast (row l r) u else 0) := by
  classical
  unfold count
  refine (stand_apply _ r).trans ((word_row _ _ _ _ r).trans ?_)
  have e : row (extui 32 (xori (reach l cand) (broadcastTo S128x1000 (broadcast S128x1000 0#1) broadcasts_S128x1000_S128x1000))
      natLt_1_32) r = fun k : Fin 1000 => (reach l cand (ix2 r k)).setWidth 32 := by
    funext k
    show (IntOp.xori (reach l cand (ix2 r k)) 0#1).setWidth 32 = _
    rw [show IntOp.xori (reach l cand (ix2 r k)) 0#1 = reach l cand (ix2 r k) from BitVec.xor_zero]
  rw [e]
  refine (IndicatorCount.fold_addi_setWidth_eq_card (w := 32) (fun k : Fin 1000 => reach l cand (ix2 r k)) Finset.univ).trans ?_
  congr 1
  split
  · rename_i h
    unfold atLeast
    congr 1
    ext k
    rw [Finset.mem_filter, Finset.mem_filter, reach_iff l r cand k u hu hc]
    simp [h]
  · rename_i h
    rw [Finset.card_eq_zero, Finset.filter_eq_empty_iff]
    intro k _
    rw [reach_iff l r cand k u hu hc]
    exact fun h' => h h'.1

/-! ## The search -/

theorem narrow_eq (x : IVec S128x1 32) (p i : ℕ) (hx : x (ix2 r (0 : Fin 1)) = BitVec.ofNat 32 (p + 2147483648))
    (hp : p + 2 ^ i < 4294967296) :
    narrow l x (BitVec.ofNat 32 (2 ^ i)) (ix2 r (0 : Fin 1)) = BitVec.ofNat 32 (take (Enough (row l r)) p i + 2147483648) := by
  have ha : addi x (broadcast S128x1 (BitVec.ofNat 32 (2 ^ i))) (ix2 r (0 : Fin 1))
      = BitVec.ofNat 32 (p + 2 ^ i + 2147483648) := by
    show x (ix2 r (0 : Fin 1)) + BitVec.ofNat 32 (2 ^ i) = _
    rw [hx, ← BitVec.ofNat_add]
    congr 1
    omega
  have hn : narrow l x (BitVec.ofNat 32 (2 ^ i)) (ix2 r (0 : Fin 1))
      = Scalar.select (IntOp.cmpi .sge (count l (addi x (broadcast S128x1 (BitVec.ofNat 32 (2 ^ i)))) (ix2 r (0 : Fin 1))) 100#32)
          (addi x (broadcast S128x1 (BitVec.ofNat 32 (2 ^ i))) (ix2 r (0 : Fin 1))) (x (ix2 r (0 : Fin 1))) := rfl
  rw [hn, count_eq l r _ _ hp ha, ha, hx]
  have hle : (if p + 2 ^ i ≤ 4286578688 then atLeast (row l r) (p + 2 ^ i) else 0) ≤ 1000 := by
    split
    · exact atLeast_le _ _
    · norm_num
  unfold Scalar.select take
  have hI : (BitVec.ofNat 32 (if p + 2 ^ i ≤ 4286578688 then atLeast (row l r) (p + 2 ^ i) else 0)).toInt
      = ((if p + 2 ^ i ≤ 4286578688 then atLeast (row l r) (p + 2 ^ i) else 0 : ℕ) : ℤ) := WordCmp.toInt_ofNat_of_lt (by omega)
  rw [WordCmp.cmpi_sge_eq, hI]
  by_cases h : Enough (row l r) (p + 2 ^ i)
  · rw [if_pos h, if_pos]
    refine (WordCmp.ofBool_eq_one_iff' _).mpr (decide_eq_true ?_)
    rw [if_pos h.1]
    show (100 : ℤ) ≤ _
    exact_mod_cast h.2
  · rw [if_neg h, if_neg]
    intro hh
    have hh := of_decide_eq_true ((WordCmp.ofBool_eq_one_iff' _).mp hh)
    have hh : (100 : ℤ) ≤ ((if p + 2 ^ i ≤ 4286578688 then atLeast (row l r) (p + 2 ^ i) else 0 : ℕ) : ℤ) := hh
    by_cases h1 : p + 2 ^ i ≤ 4286578688
    · rw [if_pos h1] at hh
      exact h ⟨h1, by exact_mod_cast hh⟩
    · rw [if_neg h1] at hh
      norm_num at hh

theorem bits_eq : bits = (List.range 32).reverse.map fun i => BitVec.ofNat 32 (2 ^ i) := by decide +kernel

/-- The search ends, in each row, with the greatest key which a hundred logits reach. -/
theorem search_eq : search l (ix2 r (0 : Fin 1)) = BitVec.ofNat 32 (best (row l r) + 2147483648) := by
  unfold search
  rw [bits_eq, List.foldl_map]
  exact take_follow (Enough (row l r)) 4294967296 (fun x i => narrow l x (BitVec.ofNat 32 (2 ^ i)))
    (fun x p => x (ix2 r (0 : Fin 1)) = BitVec.ofNat 32 (p + 2147483648))
    (fun x p i hx hp => narrow_eq l r x p i hx hp) 32 _ 0 rfl (by norm_num)

theorem kept_iff_key (j : Fin 1000) : kept l (ix2 r j) = 1#1 ↔ key (best (row l r)) ≤ row l r j := by
  obtain ⟨h1, h2, _⟩ := best_spec (row l r)
  rw [kept, reach_iff l r _ j _ h1 (search_eq l r)]
  exact and_iff_right h2.1

/-! ## The softmax -/

theorem unnorm_eq (j : Fin 1000) : unnorm l (ix2 r j) = raised (row l r) j := by
  have e : unnorm l (ix2 r j) = Scalar.select (kept l (ix2 r j)) (Ideal.exp (l (ix2 r j) - top (row l r))) (0 : EReal) := by
    have e1 := (column_apply (shapeCast S128x1 (multiReduction .maximumf [1] S128 l 0xFF800000#32 reduces_S128x1000_S128
      (.inl rfl) rfl) shapeCasts_S128_S128x1) r j).trans ((stand_apply _ r).trans (top_row l _ r))
    rw [← e1, ← Ideal.ofBits_zero_f32]
    rfl
  rw [e]
  exact if_congr (kept_iff_key l r j) rfl rfl

/-- The probabilities in a row. -/
theorem probs_eq (j : Fin 1000) : probs l (ix2 r j) = Ideal.div (raised (row l r) j) (∑ k, raised (row l r) k) := by
  have e1 := (column_apply (shapeCast S128x1 (multiReduction .add [1] S128 (unnorm l) 0x00000000#32 reduces_S128x1000_S128
    (.inl rfl) rfl) shapeCasts_S128_S128x1) r j).trans ((stand_apply _ r).trans (sum_row (unnorm l) _ r))
  have e : probs l (ix2 r j) = Ideal.div (unnorm l (ix2 r j)) (∑ k, unnorm l (ix2 r k)) := by
    rw [← e1]
    rfl
  rw [e, unnorm_eq]
  exact congrArg _ (Finset.sum_congr rfl fun k _ => unnorm_eq l r k)

/-! ## The sample -/

theorem noisy_eq (g : FVec Ideal S128x1000 .f32) (j : Fin 1000) : noisy l g (ix2 r j) = shaken (row l r) (row g r) j := by
  have e0 : Ideal.ofBits .f32 0xFF800000#32 = (⊥ : EReal) := by simp [Ideal.ofBits, Ideal.ieee]
  have e : noisy l g (ix2 r j) = Scalar.select (kept l (ix2 r j)) (l (ix2 r j) + g (ix2 r j) : EReal) (⊥ : EReal) := by
    rw [← e0]
    rfl
  rw [e]
  exact if_congr (kept_iff_key l r j) rfl rfl

/-- A fold by the signed minimum is one of the words which is below all of them. -/
theorem fold_minsi {ι : Type} [DecidableEq ι] (f : ι → BitVec 32) (s : Finset ι) (b : BitVec 32) :
    (s.fold IntOp.minsi b f).toInt = s.fold min b.toInt fun i => (f i).toInt := by
  refine Eq.symm (Finset.fold_hom (m := BitVec.toInt) fun x y => ?_)
  unfold IntOp.minsi
  rw [BitVec.slt_eq_decide]
  by_cases h : x.toInt < y.toInt
  · rw [if_pos (decide_eq_true h), min_eq_left h.le]
  · rw [if_neg (by simpa using h), min_eq_right (not_lt.mp h)]

/-- The sample in a row is the first place where the noisy logits are greatest. -/
theorem sample_eq (g : FVec Ideal S128x1000 .f32) (k : Fin 1000) (hk : IsFirst (shaken (row l r) (row g r)) k) :
    sample l g (ix2 r (0 : Fin 1)) = BitVec.ofNat 32 k.val := by
  classical
  unfold sample
  refine (stand_apply _ r).trans ((word_row _ _ _ _ r).trans ?_)
  set y := shaken (row l r) (row g r) with hy
  have hrow : row (noisy l g) r = y := funext fun j => noisy_eq l r g j
  have e : row (select (cmpf .oeq (noisy l g) (broadcastTo S128x1000 (shapeCast S128x1
        (multiReduction .maximumf [1] S128 (noisy l g) 0xFF800000#32 reduces_S128x1000_S128 (.inl rfl) rfl)
        shapeCasts_S128_S128x1) broadcasts_S128x1_S128x1000))
      (iota .tc S128x1000 32 [1] iota_S128x1000_d1_w32) (broadcast S128x1000 1000#32)) r
      = fun j : Fin 1000 => if y j = y k then BitVec.ofNat 32 j.val else 1000#32 := by
    funext j
    have e1 : (broadcastTo S128x1000 (shapeCast S128x1
        (multiReduction .maximumf [1] S128 (noisy l g) 0xFF800000#32 reduces_S128x1000_S128 (.inl rfl) rfl)
        shapeCasts_S128_S128x1) broadcasts_S128x1_S128x1000) (ix2 r j) = y k := by
      rw [← hk.top_eq, ← hrow]
      exact (column_apply _ r j).trans ((stand_apply _ r).trans (top_row _ _ r))
    show Scalar.select (Ideal.cmp .oeq (noisy l g (ix2 r j)) ((broadcastTo S128x1000 (shapeCast S128x1
        (multiReduction .maximumf [1] S128 (noisy l g) 0xFF800000#32 reduces_S128x1000_S128 (.inl rfl) rfl)
        shapeCasts_S128_S128x1) broadcasts_S128x1_S128x1000) (ix2 r j))) (BitVec.ofNat 32 (0 * 1000 + j.val)) 1000#32 = _
    rw [e1, noisy_eq l r g j, Nat.zero_mul, Nat.zero_add]
    unfold Scalar.select Ideal.cmp
    simp only [WordCmp.ofBool_eq_one_iff', decide_eq_true_eq]
    rfl
  rw [e]
  have hi : ∀ j : Fin 1000, (BitVec.ofNat 32 j.val).toInt = (j.val : ℤ) := fun j =>
    WordCmp.toInt_ofNat_of_lt (by have := j.isLt; omega)
  apply BitVec.eq_of_toInt_eq
  refine (fold_minsi _ _ _).trans ?_
  rw [hi]
  refine le_antisymm ((Finset.fold_min_le _).mpr (.inr ⟨k, Finset.mem_univ _, ?_⟩)) ((Finset.le_fold_min _).mpr ⟨?_, fun j _ => ?_⟩)
  · rw [if_pos rfl, hi]
  · have := k.isLt
    show (k.val : ℤ) ≤ 2147483647
    omega
  · split
    · rename_i h
      rw [hi]
      rcases hk j with h' | ⟨_, h'⟩
      · exact absurd h' (by rw [h]; exact lt_irrefl _)
      · exact_mod_cast h'
    · have := k.isLt
      show (k.val : ℤ) ≤ 1000
      omega

end Row

end Cert.KernelIdeal.Hand

end
-- ==== Proof.RefRun.lean ====
/- The reference's run: its results as functions of its arguments, one head at a time. -/
module

public import proofs.«01_k».proof.Proof.Gen.ReferenceIdeal
public import Idealize.ShloMosaic.Lib.StableHlo.RunHlo
public import Idealize.ShloMosaic.Lib.Claim

@[expose] public section

noncomputable section

namespace Cert.ReferenceIdeal.Hand

open Idealize.ShloMosaic Idealize.ShloMosaic.TcCoe Idealize.SL.Sem
open Cert.ReferenceIdeal.Gen

variable {F : FTy → Type} [FloatOps F]

/-- The logits of a head: the product with its weight, and its bias along the rows. -/
def scores (x : FVec F S128x2048 .f32) (w : FVec F S2048x1000 .f32) (b : FVec F S1000 .f32) : FVec F S128x1000 .f32 :=
  addf (Host.dotGeneral dot_S128x2048_S2048x1000_S128x1000_1_0_0_1_n_n none x w)
    (broadcastInDim S128x1000 ![0, 1] bcast_S1x1000_S128x1000_0_1 (broadcastInDim S1x1000 ![1] bcast_S1000_S1x1000_1 b))

/-- The hundred greatest logits of each row and where they stand. -/
def leaders (l : FVec F S128x1000 .f32) : FVec F S128x100 .f32 × IVec S128x100 32 :=
  Host.topK S128x100 1 (FloatOps.cmpfTotal .gt) l sliceFits_S128x1000_S128x100

/-- The number of the row, in every place of a table with a hundred columns. -/
def rowNumber : IVec S128x100 32 :=
  broadcastInDim S128x100 ![0, 1] bcast_S128x1_S128x100_0_1
    (select (cmpi .slt (broadcastInDim S128x1 ![0] bcast_S128_S128x1_0 (iotaInDim S128 32 0))
        (broadcastInDim S128x1 ![] bcast_S_S128x1 (constantI S_ 32 0#32)))
      (addi (broadcastInDim S128x1 ![0] bcast_S128_S128x1_0 (iotaInDim S128 32 0))
        (broadcastInDim S128x1 ![] bcast_S_S128x1 (constantI S_ 32 128#32)))
      (broadcastInDim S128x1 ![0] bcast_S128_S128x1_0 (iotaInDim S128 32 0)))

/-- A column's number counted from the end when it is negative. -/
def wrapped (i : IVec S128x100 32) : IVec S128x100 32 :=
  select (cmpi .slt i (broadcastInDim S128x100 ![] bcast_S_S128x100 (constantI S_ 32 0#32)))
    (addi i (broadcastInDim S128x100 ![] bcast_S_S128x100 (constantI S_ 32 1000#32))) i

/-- The places which the hundred greatest are written to. -/
def places (i : IVec S128x100 32) : IVec S128x100x2 32 :=
  concatenate S128x100x2 2 [⟨S128x100x1, broadcastInDim S128x100x1 ![0, 1] bcast_S128x100_S128x100x1_0_1 rowNumber⟩,
    ⟨S128x100x1, broadcastInDim S128x100x1 ![0, 1] bcast_S128x100_S128x100x1_0_1 (wrapped i)⟩]
    concatenates_S128x100x1_S128x100x1_S128x100x2_d2

/-- The logits with all but each row's hundred greatest at minus infinity. -/
def sifted (l : FVec F S128x1000 .f32) : FVec F S128x1000 .f32 :=
  Host.scatter scatter_S128x1000_S128x100x2_S128x100_n_01_01_2 (fun _ b => b)
    (broadcastInDim S128x1000 ![] bcast_S_S128x1000 (constant S_ .f32 0xFF800000#32)) (places (leaders l).2) (leaders l).1

/-- The logits over the temperature, which is one. -/
def tempered (f : FVec F S128x1000 .f32) : FVec F S128x1000 .f32 :=
  Host.divf f (broadcastInDim S128x1000 ![] bcast_S_S128x1000 (constant S_ .f32 0x3F800000#32))

/-- Each row's exponentials over its greatest entry. -/
def lifted (f : FVec F S128x1000 .f32) : FVec F S128x1000 .f32 :=
  Host.exp (subf f (broadcastInDim S128x1000 ![0, 1] bcast_S128x1_S128x1000_0_1 (broadcastInDim S128x1 ![0] bcast_S128_S128x1_0
    (maximumf (broadcastInDim S128 ![] bcast_S_S128 (constant S_ .f32 0xFF800000#32))
      (Host.reduce FloatOps.maximumf f (constant S_ .f32 0xFF800000#32) reducesTo_S128x1000_S128_d1 h_S_)))))

/-- The softmax along the rows. -/
def softmax (f : FVec F S128x1000 .f32) : FVec F S128x1000 .f32 :=
  Host.divf (lifted f) (broadcastInDim S128x1000 ![0, 1] bcast_S128x1_S128x1000_0_1 (broadcastInDim S128x1 ![0] bcast_S128_S128x1_0
    (Host.reduceAdd (lifted f) (constant S_ .f32 0x00000000#32) reducesTo_S128x1000_S128_d1 h_S_)))

/-- One head's share of the noise. -/
def share (g : FVec F S3x128x1000 .f32) (o : Fin 3 → ℕ) (h : S3x128x1000.Slices o S1x128x1000) : FVec F S128x1000 .f32 :=
  shapeCast S128x1000 (extractStridedSlice S1x128x1000 o g h) shapeCasts_S1x128x1000_S128x1000

/-- Where each row is greatest, the first of equals. -/
def firstTop (y : FVec F S128x1000 .f32) : IVec S128 32 := fun j =>
  (Host.argReduce reducer_argmax_f32_i32 y (iotaInDim S128x1000 32 1) (constant S_ .f32 0xFF800000#32) (constantI S_ 32 0#32)
    reducesTo_S128x1000_S128_d1 h_S_ j).2

/-- The sampled column of each row. -/
def picked (l : FVec F S128x1000 .f32) (g : FVec F S128x1000 .f32) : IVec S128 32 := firstTop (addf g (tempered (sifted l)))

set_option maxHeartbeats 4000000 in
/-- The reference's results. -/
theorem run_values (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem (c.tc.loc main_v78) = softmax (tempered (sifted (scores (m (c.tc.loc main_arg0)) (m (c.tc.loc main_arg1)) (m (c.tc.loc main_arg2)))))
      ∧ r.2.mem (c.tc.loc main_v91) = softmax (tempered (sifted (scores (m (c.tc.loc main_arg0)) (m (c.tc.loc main_arg3)) (m (c.tc.loc main_arg4)))))
      ∧ r.2.mem (c.tc.loc main_v104) = softmax (tempered (sifted (scores (m (c.tc.loc main_arg0)) (m (c.tc.loc main_arg5)) (m (c.tc.loc main_arg6)))))
      ∧ r.2.mem (c.tc.loc main_v110) = picked (scores (m (c.tc.loc main_arg0)) (m (c.tc.loc main_arg1)) (m (c.tc.loc main_arg2)))
          (share (m (c.tc.loc main_arg7)) ![0, 0, 0] slices_S3x128x1000_S1x128x1000_0_0_0)
      ∧ r.2.mem (c.tc.loc main_v116) = picked (scores (m (c.tc.loc main_arg0)) (m (c.tc.loc main_arg3)) (m (c.tc.loc main_arg4)))
          (share (m (c.tc.loc main_arg7)) ![1, 0, 0] slices_S3x128x1000_S1x128x1000_1_0_0)
      ∧ r.2.mem (c.tc.loc main_v122) = picked (scores (m (c.tc.loc main_arg0)) (m (c.tc.loc main_arg5)) (m (c.tc.loc main_arg6)))
          (share (m (c.tc.loc main_arg7)) ![2, 0, 0] slices_S3x128x1000_S1x128x1000_2_0_0)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7))
      ∧ r.2.sem = fun _ => 0) := by
  hlo_run
  · refine fun c => ⟨?_, ?_, ?_, ?_, ?_, ?_, trivial, trivial, trivial, trivial, trivial, trivial, trivial, trivial⟩
    iterate 3
      · unfold softmax lifted tempered sifted places wrapped rowNumber leaders scores
        simp only [↓ StableHlo.readResult, ↓ StableHlo.readPieces]
    all_goals
      unfold picked firstTop share tempered sifted places wrapped rowNumber leaders scores
      simp only [↓ StableHlo.readResult, ↓ StableHlo.readPieces]
      rfl
  · exact Idealize.ShloMosaic.sem_eq_zero_of_no_sems (sig := Cert.ReferenceIdeal.sig) (by decide) _

end Cert.ReferenceIdeal.Hand

end
-- ==== Proof.RefRead.lean ====
/- What the reference computes for one head at the extended reals, read one row at a time. -/
module

public import proofs.«01_k».proof.Proof.RefRun
public import proofs.«01_k».proof.Proof.TopSet
public import Idealize.ShloMosaic.PureOps.Ideal.Laws
public import Idealize.ShloMosaic.Lib.SortFacts
public import Idealize.ShloMosaic.Lib.ValueLayout
public import Idealize.ShloMosaic.Lib.WordCmp
public import Idealize.ShloMosaic.Lib.KernelVsHost
public import Idealize.ShloMosaic.Lib.ScatterToDense.RefScatter
public import Idealize.ShloMosaic.Lib.PointwiseCore

@[expose] public section

noncomputable section

namespace TopK

open Idealize.ShloMosaic hiding ix1 ix2 ix3
open Idealize.ShloMosaic.ValueIdx

/-! ## The order of a row -/

/-- Where the entries of a row stand in it, the greatest first. -/
def rank (l : Fin 1000 → EReal) : Fin 1000 → Fin 1000 := sortedFrom fun a b => Ideal.cmp .ogt (l a) (l b) == 1#1

theorem before_iff (x y : EReal) : (Ideal.cmp .ogt x y == 1#1) = true ↔ y < x := by
  rw [beq_iff_eq]
  exact WordCmp.ofBool_decide_eq_one_iff (y < x)

theorem before_not_iff (x y : EReal) : (Ideal.cmp .ogt x y == 1#1) = false ↔ x ≤ y := by
  rw [← not_lt, ← before_iff, Bool.not_eq_true]

theorem rank_injective (l : Fin 1000 → EReal) : Function.Injective (rank l) := sortedFrom_injective _

theorem rank_anti (l : Fin 1000 → EReal) (i j : Fin 1000) (h : i < j) : l (rank l j) ≤ l (rank l i) := by
  refine (before_not_iff _ _).mp (sortedFrom_noInversion (fun a b => Ideal.cmp .ogt (l a) (l b) == 1#1) _ ?_ (fun _ _ h => h) ?_ i j h)
  · intro a b h
    exact (before_not_iff _ _).mpr ((before_iff _ _).mp h).le
  · intro a b c h1 h2
    exact (before_not_iff _ _).mpr (((before_not_iff _ _).mp h1).trans ((before_not_iff _ _).mp h2))

/-- A sort along the rows, with what it carries along. -/
theorem sort_read {β : Type} (gt : EReal → EReal → BitVec 1) (x : (⟨2, ![128, 1000]⟩ : Shape).Idx → EReal)
    (y : (⟨2, ![128, 1000]⟩ : Shape).Idx → β) :
    Host.sort2 ⟨2, ![128, 1000]⟩ 1 (fun a b => gt a.1 b.1) x y
      = (fun i => x (i.along (1 : Fin 2) (sortedFrom (fun k k' => gt (x (i.along (1 : Fin 2) k)) (x (i.along (1 : Fin 2) k')) == 1#1) (i 1))),
         fun i => y (i.along (1 : Fin 2) (sortedFrom (fun k k' => gt (x (i.along (1 : Fin 2) k)) (x (i.along (1 : Fin 2) k')) == 1#1) (i 1)))) :=
  dif_pos (show 1 < (⟨2, ![128, 1000]⟩ : Shape).rank by decide)

theorem along_row (r : Fin 128) (k j : Fin 1000) :
    (ix2 r k : (⟨2, ![128, 1000]⟩ : Shape).Idx).along (1 : Fin 2) j = ix2 r j := by
  funext a
  match a with
    | ⟨0, _⟩ => rfl
    | ⟨1, _⟩ => rfl

/-- The place in its row which a sort by the greatest brings to place `k`. -/
theorem sorted_place (x : FVec Ideal (⟨2, ![128, 1000]⟩ : Shape) .f32) (r : Fin 128) (k : Fin 1000) :
    (ix2 r k : (⟨2, ![128, 1000]⟩ : Shape).Idx).along (1 : Fin 2) (sortedFrom (fun a b =>
        FloatOps.cmpfTotal .gt (x ((ix2 r k : (⟨2, ![128, 1000]⟩ : Shape).Idx).along (1 : Fin 2) a))
          (x ((ix2 r k : (⟨2, ![128, 1000]⟩ : Shape).Idx).along (1 : Fin 2) b)) == 1#1) k)
      = ix2 r (rank (fun j => x (ix2 r j)) k) := by
  refine (along_row r k _).trans (congrArg (fun B => ix2 r (sortedFrom B k)) ?_)
  funext a b
  exact congrArg₂ (fun p q => FloatOps.cmpfTotal .gt (x p) (x q) == 1#1) (along_row r k a) (along_row r k b)

/-- The values of a search for the greatest along the rows. -/
theorem topK_value (N : ℕ) (hN : N ≤ 1000) (x : FVec Ideal (⟨2, ![128, 1000]⟩ : Shape) .f32)
    (h : (⟨2, ![128, 1000]⟩ : Shape).Slices (fun _ => 0) ⟨2, ![128, N]⟩) (r : Fin 128) (k : Fin N) :
    (Host.topK ⟨2, ![128, N]⟩ 1 (FloatOps.cmpfTotal .gt) x h).1 (ix2 r k)
      = x (ix2 r (rank (fun j => x (ix2 r j)) (k.castLE hN))) := by
  refine (extractStridedSlice_apply (fun _ => 0) (Host.sort2 (⟨2, ![128, 1000]⟩ : Shape) 1
    (fun a b => FloatOps.cmpfTotal (F := Ideal) (φ := .f32) .gt a.1 b.1) x
    (fun i => if hd : 1 < (⟨2, ![128, 1000]⟩ : Shape).rank then iotaInDim (⟨2, ![128, 1000]⟩ : Shape) 32 ⟨1, hd⟩ i else 0#32)).1
    h (ix2 r k) (ix2 r (k.castLE hN)) fun a => ?_).trans ?_
  · match a with
    | ⟨0, _⟩ => exact (Nat.zero_add _).symm
    | ⟨1, _⟩ => exact (Nat.zero_add _).symm
  refine (congrFun (congrArg Prod.fst (sort_read (FloatOps.cmpfTotal (F := Ideal) (φ := .f32) .gt) x _)) _).trans ?_
  exact congrArg x (sorted_place x r (k.castLE hN))

/-- Every place's column. -/
def columns : IVec (⟨2, ![128, 1000]⟩ : Shape) 32 :=
  fun i => if hd : 1 < (⟨2, ![128, 1000]⟩ : Shape).rank then iotaInDim (⟨2, ![128, 1000]⟩ : Shape) 32 ⟨1, hd⟩ i else 0#32

theorem columns_apply (r : Fin 128) (k : Fin 1000) : columns (ix2 r k) = BitVec.ofNat 32 k.val :=
  dif_pos (show 1 < (⟨2, ![128, 1000]⟩ : Shape).rank by decide)

/-- The places of a search for the greatest along the rows. -/
theorem topK_place (N : ℕ) (hN : N ≤ 1000) (x : FVec Ideal (⟨2, ![128, 1000]⟩ : Shape) .f32)
    (h : (⟨2, ![128, 1000]⟩ : Shape).Slices (fun _ => 0) ⟨2, ![128, N]⟩) (r : Fin 128) (k : Fin N) :
    (Host.topK ⟨2, ![128, N]⟩ 1 (FloatOps.cmpfTotal .gt) x h).2 (ix2 r k)
      = BitVec.ofNat 32 (rank (fun j => x (ix2 r j)) (k.castLE hN)).val := by
  refine (extractStridedSlice_apply (fun _ => 0) (Host.sort2 (⟨2, ![128, 1000]⟩ : Shape) 1
    (fun a b => FloatOps.cmpfTotal (F := Ideal) (φ := .f32) .gt a.1 b.1) x
    columns).2
    h (ix2 r k) (ix2 r (k.castLE hN)) fun a => ?_).trans ?_
  · match a with
    | ⟨0, _⟩ => exact (Nat.zero_add _).symm
    | ⟨1, _⟩ => exact (Nat.zero_add _).symm
  refine (congrFun (congrArg Prod.snd (sort_read (FloatOps.cmpfTotal (F := Ideal) (φ := .f32) .gt) x columns)) _).trans ?_
  exact (congrArg columns (sorted_place x r (k.castLE hN))).trans (columns_apply _ _)

/-- Writing entries to their own places leaves them there, and what was there elsewhere. -/
theorem written (word : ℕ → BitVec 32) (val : ℕ → EReal) (π : Fin 1000 → Fin 1000) (l : Fin 1000 → EReal)
    (hw : ∀ k : Fin 1000, word k.val = BitVec.ofNat 32 (π k).val) (hv : ∀ k : Fin 1000, val k.val = l (π k)) (j : Fin 1000) :
    ∀ n ≤ 1000, ((∃ k : Fin 1000, k.val < n ∧ π k = j) → ScatterToDense.GS word val ⊥ j.val n = l j)
      ∧ ((¬ ∃ k : Fin 1000, k.val < n ∧ π k = j) → ScatterToDense.GS word val ⊥ j.val n = ⊥) := by
  intro n
  induction n with
  | zero =>
    intro _
    exact ⟨fun ⟨k, hk, _⟩ => absurd hk (Nat.not_lt_zero _), fun _ => rfl⟩
  | succ n ih =>
    intro hn
    obtain ⟨ih1, ih2⟩ := ih (by omega)
    have hw' := hw ⟨n, by omega⟩
    have hv' := hv ⟨n, by omega⟩
    simp only at hw' hv'
    have ht : (word n).toNat = (π ⟨n, by omega⟩).val := by
      rw [hw', BitVec.toNat_ofNat, Nat.mod_eq_of_lt (by have := (π ⟨n, by omega⟩).isLt; omega)]
    by_cases h : π ⟨n, by omega⟩ = j
    · have hit : ScatterToDense.GS word val ⊥ j.val (n + 1) = l j := by
        rw [ScatterToDense.GS_succ_hit (by rw [ht, h]), hv', h]
      exact ⟨fun _ => hit, fun h' => absurd ⟨⟨n, by omega⟩, by simp, h⟩ h'⟩
    · have miss : ScatterToDense.GS word val ⊥ j.val (n + 1) = ScatterToDense.GS word val ⊥ j.val n :=
        ScatterToDense.GS_succ_miss (by rw [ht]; exact fun h' => h (Fin.ext h'.symm))
      rw [miss]
      refine ⟨fun ⟨k, hk, hkj⟩ => ih1 ⟨k, ?_, hkj⟩, fun h' => ih2 fun ⟨k, hk, hkj⟩ => h' ⟨k, by omega, hkj⟩⟩
      refine lt_of_le_of_ne (by omega) fun e => h ?_
      rw [← hkj]
      exact congrArg π (Fin.ext e.symm)

/-! ## A scan for the first greatest -/

/-- The second pair is greater, or equal and not later. -/
def Under (p q : EReal × BitVec 32) : Prop := p.1 < q.1 ∨ (p.1 = q.1 ∧ q.2.toInt ≤ p.2.toInt)

theorem Under.refl (p : EReal × BitVec 32) : Under p p := .inr ⟨rfl, le_rfl⟩

theorem Under.trans {p q s : EReal × BitVec 32} (h1 : Under p q) (h2 : Under q s) : Under p s := by
  rcases h1 with h1 | ⟨h1, h1'⟩ <;> rcases h2 with h2 | ⟨h2, h2'⟩
  · exact .inl (h1.trans h2)
  · exact .inl (h2 ▸ h1)
  · exact .inl (h1 ▸ h2)
  · exact .inr ⟨h1.trans h2, h2'.trans h1'⟩

/-- A scan which keeps one of two pairs that neither is above ends with a pair of the list that none is above. -/
theorem scan_spec (f : EReal × BitVec 32 → EReal × BitVec 32 → EReal × BitVec 32)
    (hf : ∀ a b, (f a b = a ∨ f a b = b) ∧ Under a (f a b) ∧ Under b (f a b)) (L : List (EReal × BitVec 32)) :
    ∀ a, (L.foldl f a = a ∨ L.foldl f a ∈ L) ∧ Under a (L.foldl f a) ∧ ∀ p ∈ L, Under p (L.foldl f a) := by
  induction L with
  | nil => intro a; exact ⟨.inl rfl, Under.refl a, fun p hp => absurd hp (List.not_mem_nil)⟩
  | cons b L ih =>
    intro a
    obtain ⟨h1, h2, h3⟩ := ih (f a b)
    obtain ⟨g1, g2, g3⟩ := hf a b
    rw [List.foldl_cons]
    refine ⟨?_, g2.trans h2, fun p hp => ?_⟩
    · rcases h1 with h1 | h1
      · rw [h1]
        rcases g1 with g1 | g1
        · exact .inl g1
        · exact .inr (by rw [g1]; exact List.mem_cons_self)
      · exact .inr (List.mem_cons_of_mem _ h1)
    · rcases List.mem_cons.mp hp with rfl | hp
      · exact g3.trans h2
      · exact h3 p hp

end TopK

namespace Cert.ReferenceIdeal.Hand

open Idealize.ShloMosaic hiding ix1 ix2 ix3
open Idealize.ShloMosaic.ValueIdx
open Cert.ReferenceIdeal.Gen
open TopK

/-- A row of a matrix. -/
abbrev row {α : Type} (x : S128x1000.Idx → α) (r : Fin 128) : Fin 1000 → α := fun j => x (ix2 r j)

section Row

variable (l : FVec Ideal S128x1000 .f32) (r : Fin 128)

/-! ## The hundred greatest -/

theorem rowNumber_eq (i : Fin 128) (k : Fin 100) : rowNumber (ix2 i k) = BitVec.ofNat 32 i.val := by
  refine Eq.trans (b := Scalar.select (IntOp.cmpi .slt (BitVec.ofNat 32 i.val) 0#32)
    (BitVec.ofNat 32 i.val + 128#32) (BitVec.ofNat 32 i.val)) rfl ?_
  exact Routing.wrap_of_lt _ _ (by
    rw [BitVec.toNat_ofNat]
    exact Nat.lt_of_le_of_lt (Nat.mod_le _ _) (by have := i.isLt; show i.val < 2 ^ 31; omega))

theorem wrapped_eq (w : IVec S128x100 32) (i : Fin 128) (k : Fin 100) (h : (w (ix2 i k)).toNat < 2 ^ 31) :
    wrapped w (ix2 i k) = w (ix2 i k) :=
  Routing.wrap_of_lt (w (ix2 i k)) (w (ix2 i k) + 1000#32) h

theorem places_row (w : IVec S128x100 32) (i : Fin 128) (k : Fin 100) :
    places w (ix3 i k (0 : Fin 2)) = BitVec.ofNat 32 i.val :=
  rowNumber_eq i k

theorem places_column (w : IVec S128x100 32) (i : Fin 128) (k : Fin 100) (h : (w (ix2 i k)).toNat < 2 ^ 31) :
    places w (ix3 i k (1 : Fin 2)) = w (ix2 i k) := by
  refine Eq.trans ?_ (wrapped_eq w i k h)
  unfold places
  pointwise
  rfl

/-- The order of a row by the number of the place, and the last place past the end. -/
def rankAt (l : Fin 1000 → EReal) (k : ℕ) : Fin 1000 := rank l ⟨min k 999, by omega⟩

theorem rankAt_val (l : Fin 1000 → EReal) (k : Fin 1000) : rankAt l k.val = rank l k := by
  unfold rankAt
  congr 1
  exact Fin.ext (min_eq_left (by have := k.isLt; omega))

/-- The sifted logits in a row are its entries which reach the key. -/
theorem sifted_eq (hap : Apart (row l r (rank (row l r) 99)) (row l r (rank (row l r) 100))) (j : Fin 1000) :
    sifted l (ix2 r j) = filtered (row l r) j := by
  have hplace : ∀ (i : Fin 128) (k : Fin 100), (leaders l).2 (ix2 i k) = BitVec.ofNat 32 (rankAt (row l i) k.val).val := by
    intro i k
    rw [show rankAt (row l i) k.val = rank (row l i) (k.castLE (by norm_num)) from rankAt_val _ (k.castLE (by norm_num))]
    exact topK_place 100 (by norm_num) l sliceFits_S128x1000_S128x100 i k
  have e := ScatterToDense.scatter_eq_GS scatter_S128x1000_S128x100x2_S128x100_n_01_01_2 rfl rfl rfl (by norm_num) (by norm_num)
    (broadcastInDim S128x1000 ![] bcast_S_S128x1000 (constant (F := Ideal) S_ .f32 0xFF800000#32)) (places (leaders l).2) (leaders l).1
    (fun i k => BitVec.ofNat 32 (rankAt (row l i) k).val) (fun i k => row l i (rankAt (row l i) k))
    (fun i k => places_row _ i k)
    (fun i k => by
      rw [← hplace]
      refine places_column _ i k ?_
      rw [hplace, BitVec.toNat_ofNat]
      exact Nat.lt_of_le_of_lt (Nat.mod_le _ _) (by have := (rankAt (row l i) k.val).isLt; show _ < 2 ^ 31; omega))
    (fun i k => by
      rw [show rankAt (row l i) k.val = rank (row l i) (k.castLE (by norm_num)) from rankAt_val _ (k.castLE (by norm_num))]
      exact topK_value 100 (by norm_num) l sliceFits_S128x1000_S128x100 i k) r j
  refine e.trans ?_
  have e0 : (broadcastInDim S128x1000 ![] bcast_S_S128x1000 (constant (F := Ideal) S_ .f32 0xFF800000#32)) (ix2 r j) = (⊥ : EReal) := by
    show Ideal.ofBits .f32 0xFF800000#32 = _
    simp [Ideal.ofBits, Ideal.ieee]
  rw [e0]
  obtain ⟨h1, h2⟩ := written (fun k => BitVec.ofNat 32 (rankAt (row l r) k).val) (fun k => row l r (rankAt (row l r) k))
    (rank (row l r)) (row l r) (fun k => by rw [rankAt_val]) (fun k => by rw [rankAt_val]) j 100 (by norm_num)
  have hk := kept_iff (row l r) (rank (row l r)) (rank_injective _) (rank_anti _) hap j
  unfold filtered
  split
  · rename_i h
    exact h1 (hk.mp h)
  · rename_i h
    exact h2 fun h' => h (hk.mpr h')

/-! ## The softmax -/

theorem column_apply {α : Type} (x : S128.Idx → α) (j : Fin 1000) :
    broadcastInDim S128x1000 ![0, 1] bcast_S128x1_S128x1000_0_1 (broadcastInDim S128x1 ![0] bcast_S128_S128x1_0 x) (ix2 r j)
      = x (ix1 r) := by
  refine congrArg x ?_
  funext a
  match a with
    | ⟨0, _⟩ => rfl

theorem reduces_row : S128x1000.Reduces [(1 : Fin 2)] S128 := by decide

theorem lift_row (k : Fin 1000) : reduces_row.lift (ix1 r) k = ix2 r k := by
  funext a
  match a with
    | ⟨0, _⟩ => rfl
    | ⟨1, _⟩ => rfl

theorem top_row (f : FVec Ideal S128x1000 .f32) :
    Host.reduce FloatOps.maximumf f (constant S_ .f32 0xFF800000#32) reducesTo_S128x1000_S128_d1 h_S_ (ix1 r) = top (row f r) := by
  refine (Host.reduce_eq_fold_single FloatOps.maximumf f _ reducesTo_S128x1000_S128_d1 reduces_row h_S_ (ix1 r)).trans ?_
  have e0 : (constant (F := Ideal) S_ .f32 0xFF800000#32) (Shape.Idx.first h_S_) = (⊥ : EReal) := by
    show Ideal.ofBits .f32 0xFF800000#32 = _
    simp [Ideal.ofBits, Ideal.ieee]
  rw [e0]
  exact congrArg (Finset.fold max (⊥ : EReal) · Finset.univ) (funext fun k => congrArg f (lift_row r k))

theorem lifted_eq (f : FVec Ideal S128x1000 .f32) (t : Fin 1000 → EReal) (hf : ∀ j, f (ix2 r j) = filtered t j) (j : Fin 1000) :
    lifted f (ix2 r j) = raised t j := by
  have hrow : row f r = filtered t := funext hf
  have e1 := (column_apply r (maximumf (broadcastInDim S128 ![] bcast_S_S128 (constant (F := Ideal) S_ .f32 0xFF800000#32))
      (Host.reduce FloatOps.maximumf f (constant S_ .f32 0xFF800000#32) reducesTo_S128x1000_S128_d1 h_S_)) j)
  have e2 : (maximumf (broadcastInDim S128 ![] bcast_S_S128 (constant (F := Ideal) S_ .f32 0xFF800000#32))
      (Host.reduce FloatOps.maximumf f (constant S_ .f32 0xFF800000#32) reducesTo_S128x1000_S128_d1 h_S_)) (ix1 r) = top t := by
    refine Eq.trans (b := max (Ideal.ofBits .f32 0xFF800000#32) (top (row f r))) ?_ ?_
    · rw [← top_row r f]
      rfl
    · rw [show Ideal.ofBits .f32 0xFF800000#32 = (⊥ : EReal) by simp [Ideal.ofBits, Ideal.ieee], max_eq_right bot_le, hrow,
        top_filtered]
  refine Eq.trans (b := Ideal.exp (f (ix2 r j) - top t)) ?_ ?_
  · rw [← e2, ← e1]
    rfl
  · rw [hf]
    unfold filtered raised
    split
    · rfl
    · rw [EReal.bot_sub]
      exact Ideal.exp_bot

theorem softmax_eq (f : FVec Ideal S128x1000 .f32) (t : Fin 1000 → EReal) (hf : ∀ j, f (ix2 r j) = filtered t j) (j : Fin 1000) :
    softmax f (ix2 r j) = Ideal.div (raised t j) (∑ k, raised t k) := by
  have e1 := column_apply r (Host.reduceAdd (lifted f) (constant S_ .f32 0x00000000#32) reducesTo_S128x1000_S128_d1 h_S_) j
  have e2 : Host.reduceAdd (lifted f) (constant S_ .f32 0x00000000#32) reducesTo_S128x1000_S128_d1 h_S_ (ix1 r)
      = ∑ k, raised t k := by
    refine (Ideal.hostReduceAdd_single reducesTo_S128x1000_S128_d1 reduces_row (lifted f) _ (ix1 r)).trans ?_
    have e0 : (constant (F := Ideal) S_ .f32 0x00000000#32) (Shape.Idx.first h_S_) = (0 : EReal) := Ideal.ofBits_zero_f32
    rw [e0, zero_add]
    exact Finset.sum_congr rfl fun k _ => (congrArg (lifted f) (lift_row r k)).trans (lifted_eq r f t hf k)
  refine Eq.trans (b := Ideal.div (lifted f (ix2 r j)) (∑ k, raised t k)) ?_ ?_
  · rw [← e2, ← e1]
    rfl
  · rw [lifted_eq r f t hf j]

/-! ## The sample -/

theorem reducer_spec (a b : EReal × BitVec 32) :
    (reducer_argmax_f32_i32 (F := Ideal) a b = a ∨ reducer_argmax_f32_i32 (F := Ideal) a b = b)
      ∧ Under a (reducer_argmax_f32_i32 (F := Ideal) a b) ∧ Under b (reducer_argmax_f32_i32 (F := Ideal) a b) := by
  obtain ⟨x, i⟩ := a
  obtain ⟨y, k⟩ := b
  have e : reducer_argmax_f32_i32 (F := Ideal) (x, i) (y, k)
      = (if y < x then x else y, if y < x ∨ (x = y ∧ i.toInt < k.toInt) then i else k) := by
    unfold reducer_argmax_f32_i32
    refine Prod.ext ?_ ?_
    · show Scalar.select (IntOp.ori (Ideal.cmp .ogt x y) (Ideal.cmp .une x x)) x y = _
      unfold Scalar.select Ideal.cmp
      rw [WordCmp.ori_ofBool]
      simp only [WordCmp.ofBool_eq_one_iff', Bool.or_eq_true, decide_eq_true_eq, ne_eq, not_true_eq_false, or_false]
    · show Scalar.select (IntOp.ori (IntOp.ori (Ideal.cmp .ogt x y) (Ideal.cmp .une x x))
        (IntOp.andi (Ideal.cmp .oeq x y) (IntOp.cmpi .slt i k))) i k = _
      unfold Scalar.select Ideal.cmp IntOp.cmpi
      simp only [WordCmp.ori_ofBool, WordCmp.andi_ofBool]
      simp only [WordCmp.ofBool_eq_one_iff', Bool.or_eq_true, Bool.and_eq_true, decide_eq_true_eq, ne_eq, not_true_eq_false, or_false,
        BitVec.slt_iff_toInt_lt]
  rw [e]
  unfold Under
  rcases lt_trichotomy y x with h | h | h
  · rw [if_pos h, if_pos (Or.inl h)]
    exact ⟨.inl rfl, .inr ⟨rfl, le_rfl⟩, .inl h⟩
  · subst h
    rw [if_neg (lt_irrefl _)]
    by_cases h' : i.toInt < k.toInt
    · rw [if_pos (Or.inr ⟨rfl, h'⟩)]
      exact ⟨.inl rfl, .inr ⟨rfl, le_rfl⟩, .inr ⟨rfl, h'.le⟩⟩
    · rw [if_neg (by rintro (h | ⟨_, h⟩); exacts [lt_irrefl _ h, h' h])]
      exact ⟨.inr rfl, .inr ⟨rfl, not_lt.mp h'⟩, .inr ⟨rfl, le_rfl⟩⟩
  · rw [if_neg h.le.not_gt, if_neg (by rintro (h' | ⟨h', _⟩); exacts [h.le.not_gt h', h.ne h'])]
    exact ⟨.inr rfl, .inl h, .inr ⟨rfl, le_rfl⟩⟩

theorem drop_row (i : S128x1000.Idx) : (reducesTo_S128x1000_S128_d1).drop i = ix1 (i 0 : Fin 128) := by
  funext a
  match a with
    | ⟨0, _⟩ => rfl

theorem mem_fiber (y : FVec Ideal S128x1000 .f32) (p : EReal × BitVec 32) :
    p ∈ Host.argReduceFiber y (iotaInDim S128x1000 32 1) reducesTo_S128x1000_S128_d1 (ix1 r)
      ↔ ∃ k : Fin 1000, p = (y (ix2 r k), BitVec.ofNat 32 k.val) := by
  unfold Host.argReduceFiber
  rw [List.mem_map]
  constructor
  · rintro ⟨n, hn, rfl⟩
    have hn := (List.mem_filter.mp hn).2
    have hn := of_decide_eq_true hn
    rw [drop_row] at hn
    have hr : (S128x1000.rowMajor.symm n 0 : Fin 128) = r := congrFun hn (0 : Fin 1)
    have hi : S128x1000.rowMajor.symm n = ix2 r (S128x1000.rowMajor.symm n 1 : Fin 1000) := by
      rw [← hr]
      exact ValueIdx.eq_ix2 _
    exact ⟨(S128x1000.rowMajor.symm n 1 : Fin 1000), Prod.ext (congrArg y hi) rfl⟩
  · rintro ⟨k, rfl⟩
    refine ⟨S128x1000.rowMajor (ix2 r k), List.mem_filter.mpr ⟨List.mem_finRange _, decide_eq_true ?_⟩, ?_⟩
    · rw [Equiv.symm_apply_apply]
      exact drop_row _
    · rw [Equiv.symm_apply_apply]
      rfl

/-- The scan ends with the first place where the row is greatest. -/
theorem firstTop_eq (y : FVec Ideal S128x1000 .f32) :
    ∃ k : Fin 1000, IsFirst (row y r) k ∧ firstTop y (ix1 r) = BitVec.ofNat 32 k.val := by
  have e0 : (constant (F := Ideal) S_ .f32 0xFF800000#32) (Shape.Idx.first h_S_) = (⊥ : EReal) := by
    show Ideal.ofBits .f32 0xFF800000#32 = _
    simp [Ideal.ofBits, Ideal.ieee]
  have e : firstTop y (ix1 r) = ((Host.argReduceFiber y (iotaInDim S128x1000 32 1) reducesTo_S128x1000_S128_d1 (ix1 r)).foldl
      (reducer_argmax_f32_i32 (F := Ideal)) ((⊥ : EReal), 0#32)).2 := by
    unfold firstTop
    rw [Ideal.argReduce_eq_reduce2, Host.reduce2_eq_foldl_fiber, e0]
    rfl
  rw [e]
  obtain ⟨h1, h2, h3⟩ := scan_spec (reducer_argmax_f32_i32 (F := Ideal)) reducer_spec
    (Host.argReduceFiber y (iotaInDim S128x1000 32 1) reducesTo_S128x1000_S128_d1 (ix1 r)) ((⊥ : EReal), 0#32)
  have hi : ∀ j : Fin 1000, (BitVec.ofNat 32 j.val).toInt = (j.val : ℤ) := fun j =>
    WordCmp.toInt_ofNat_of_lt (by have := j.isLt; omega)
  rcases h1 with h1 | h1
  · rw [h1] at h3 ⊢
    refine ⟨0, fun j => ?_, rfl⟩
    have hb : ∀ k : Fin 1000, y (ix2 r k) = (⊥ : EReal) := fun k => by
      rcases h3 _ ((mem_fiber r y _).mpr ⟨k, rfl⟩) with h | ⟨h, _⟩
      · exact absurd h (not_lt_bot)
      · exact h
    exact .inr ⟨(hb j).trans (hb 0).symm, Fin.zero_le _⟩
  · obtain ⟨k, hk⟩ := (mem_fiber r y _).mp h1
    rw [hk] at h3 ⊢
    refine ⟨k, fun j => ?_, rfl⟩
    rcases h3 _ ((mem_fiber r y _).mpr ⟨j, rfl⟩) with h | ⟨h, h'⟩
    · exact .inl h
    · refine .inr ⟨h, ?_⟩
      simp only [hi] at h'
      exact_mod_cast h'

/-- Dividing by a temperature of one changes nothing. -/
theorem tempered_eq (f : FVec Ideal S128x1000 .f32) : tempered f = f := by
  funext j
  have e1 : Ideal.ofBits .f32 0x3F800000#32 = (1 : EReal) := by
    refine (TopK.ieee_of_toNat 0x3F800000#32 0x3F800000 (by norm_num) false rfl).trans ?_
    rw [if_pos (by norm_num)]
    norm_num [TopK.mag, TopK.sig, TopK.ulp]
  show Ideal.div (f j) (Ideal.ofBits .f32 0x3F800000#32) = f j
  rw [e1]
  unfold Ideal.div
  rw [if_neg one_ne_zero, inv_one, mul_one]

theorem picked_eq (g : FVec Ideal S128x1000 .f32)
    (hap : Apart (row l r (rank (row l r) 99)) (row l r (rank (row l r) 100))) :
    ∃ k : Fin 1000, IsFirst (shaken (row l r) (row g r)) k ∧ picked l g (ix1 r) = BitVec.ofNat 32 k.val := by
  obtain ⟨k, hk, he⟩ := firstTop_eq r (addf g (tempered (sifted l)))
  rw [tempered_eq] at hk
  have e : row (addf g (sifted l)) r = shaken (row l r) (row g r) := by
    funext j
    refine Eq.trans (b := (g (ix2 r j) + sifted l (ix2 r j) : EReal)) rfl ?_
    rw [sifted_eq l r hap j]
    unfold filtered shaken
    split
    · exact add_comm _ _
    · exact EReal.add_bot _
  rw [e] at hk
  exact ⟨k, hk, he⟩

end Row

end Cert.ReferenceIdeal.Hand

end
-- ==== Proof.PreRead.lean ====
/- What the precondition says of a row: its hundredth greatest logit and the next one lie apart. -/
module

public import proofs.«01_k».proof.Proof.Gen.Pre_kth_apart
public import proofs.«01_k».proof.Proof.RefRead

@[expose] public section

noncomputable section

namespace Cert.Pre_kth_apart.Hand

open Idealize.ShloMosaic hiding ix1 ix2 ix3
open Idealize.ShloMosaic.ValueIdx
open Cert.Pre_kth_apart.Gen TopK

variable {F : FTy → Type} [FloatOps F]

/-- One column of the hundred and one greatest logits of each row, the greatest first. -/
def column (l : FVec F S128x1000 .f32) (o : Fin 2 → ℕ) (h : S128x101.Slices o S128x1) : FVec F S128 .f32 :=
  shapeCast S128 (extractStridedSlice S128x1 o
    (Host.topK S128x101 1 (FloatOps.cmpfTotal .gt) l sliceFits_S128x1000_S128x101).1 h) shapeCasts_S128x1_S128

/-- One head's condition: `a` is the hundredth greatest logit of each row and `b` the next one. -/
def parted (a b : FVec F S128 .f32) : IVec S128 1 :=
  andi (cmpf .ole (Host.absf a) (broadcastInDim S128 ![] bcast_S_S128 (constant S_ .f32 0x7F000000#32)))
    (cmpf .olt b (subf a (mulf (broadcastInDim S128 ![] bcast_S_S128 (constant S_ .f32 0x34800000#32))
      (maximumf (Host.absf a) (broadcastInDim S128 ![] bcast_S_S128 (constant S_ .f32 0x00800000#32))))))

/-- One head's condition on its logits. -/
def headParted (l : FVec F S128x1000 .f32) : IVec S128 1 :=
  parted (column l ![0, 99] slices_S128x101_S128x1_0_99) (column l ![0, 100] slices_S128x101_S128x1_0_100)

/-- The precondition is the three heads' conditions together. -/
theorem fn_eq (x : FVec F S128x2048 .f32) (wR : FVec F S2048x1000 .f32) (bR : FVec F S1000 .f32) (wP : FVec F S2048x1000 .f32)
    (bP : FVec F S1000 .f32) (wL : FVec F S2048x1000 .f32) (bL : FVec F S1000 .f32) (g : FVec F S3x128x1000 .f32) :
    Cert.Pre_kth_apart.fn x wR bR wP bP wL bL g
      = andi (andi (headParted (Cert.ReferenceIdeal.Hand.scores x wR bR)) (headParted (Cert.ReferenceIdeal.Hand.scores x wP bP)))
          (headParted (Cert.ReferenceIdeal.Hand.scores x wL bL)) := rfl

theorem both {a b : BitVec 1} (h : IntOp.andi a b = 1#1) : a = 1#1 ∧ b = 1#1 := by
  revert a b
  decide

theorem bound_read : Ideal.ofBits .f32 0x7F000000#32 = (((2 : ℝ) ^ (127 : ℤ) : ℝ) : EReal) := by
  refine (ieee_of_toNat 0x7F000000#32 0x7F000000 (by norm_num) false rfl).trans ?_
  rw [if_pos (by norm_num)]
  norm_num [mag, sig, ulp]

theorem step_read : Ideal.ofBits .f32 0x34800000#32 = (((2 : ℝ) ^ (-22 : ℤ) : ℝ) : EReal) := by
  refine (ieee_of_toNat 0x34800000#32 0x34800000 (by norm_num) false rfl).trans ?_
  rw [if_pos (by norm_num)]
  norm_num [mag, sig, ulp]

theorem least_read : Ideal.ofBits .f32 0x00800000#32 = (((2 : ℝ) ^ (-126 : ℤ) : ℝ) : EReal) := by
  refine (ieee_of_toNat 0x00800000#32 0x00800000 (by norm_num) false rfl).trans ?_
  rw [if_pos (by norm_num)]
  norm_num [mag, sig, ulp]

theorem column_eq (l : FVec Ideal S128x1000 .f32) (k : ℕ) (hk : k < 101) (h : S128x101.Slices ![0, k] S128x1) (r : Fin 128) :
    column l ![0, k] h (ix1 r) = l (ix2 r (rank (fun j => l (ix2 r j)) ⟨k, by omega⟩)) := by
  unfold column
  refine (shapeCast_apply _ shapeCasts_S128x1_S128 (ix1 r) (ix2 r (0 : Fin 1)) ?_).trans ?_
  · rw [Shape.rowMajor_val_two, Shape.rowMajor_val_one]
    show r.val * 1 + 0 = r.val
    omega
  refine (extractStridedSlice_apply ![0, k] _ h (ix2 r (0 : Fin 1)) (ix2 r (⟨k, hk⟩ : Fin 101)) ?_).trans ?_
  · intro a
    match a with
    | ⟨0, _⟩ => show r.val = 0 + r.val; omega
    | ⟨1, _⟩ => show k = k + 0; omega
  exact topK_value 101 (by norm_num) l sliceFits_S128x1000_S128x101 r ⟨k, hk⟩

/-- A head's condition at a row. -/
theorem parted_apart (a b : FVec Ideal S128 .f32) (r : Fin 128) (h : parted a b (ix1 r) = 1#1) : Apart (a (ix1 r)) (b (ix1 r)) := by
  obtain ⟨h1, h2⟩ := both h
  have e1 : BitVec.ofBool (decide (max (a (ix1 r)) (-(a (ix1 r))) ≤ Ideal.ofBits .f32 0x7F000000#32)) = 1#1 := h1
  have e2 : BitVec.ofBool (decide (b (ix1 r) < a (ix1 r) - Ideal.ofBits .f32 0x34800000#32
    * max (max (a (ix1 r)) (-(a (ix1 r)))) (Ideal.ofBits .f32 0x00800000#32))) = 1#1 := h2
  rw [bound_read] at e1
  rw [step_read, least_read] at e2
  refine ⟨?_, ?_⟩
  · by_contra hn
    rw [decide_eq_false hn] at e1
    exact absurd e1 (by decide)
  · by_contra hn
    rw [decide_eq_false hn] at e2
    exact absurd e2 (by decide)

/-- A head's condition gives, of each of its rows, that the hundredth greatest logit and the next one lie apart. -/
theorem head_apart (l : FVec Ideal S128x1000 .f32) (h : headParted l = fun _ => 1#1) (r : Fin 128) :
    Apart (l (ix2 r (rank (fun j => l (ix2 r j)) 99))) (l (ix2 r (rank (fun j => l (ix2 r j)) 100))) := by
  have e := parted_apart _ _ r (congrFun h (ix1 r))
  rw [column_eq l 99 (by norm_num), column_eq l 100 (by norm_num)] at e
  exact e

/-- The precondition gives each head's. -/
theorem heads (x : FVec Ideal S128x2048 .f32) (wR : FVec Ideal S2048x1000 .f32) (bR : FVec Ideal S1000 .f32) (wP : FVec Ideal S2048x1000 .f32)
    (bP : FVec Ideal S1000 .f32) (wL : FVec Ideal S2048x1000 .f32) (bL : FVec Ideal S1000 .f32) (g : FVec Ideal S3x128x1000 .f32)
    (h : Cert.Pre_kth_apart.fn x wR bR wP bP wL bL g = fun _ => 1#1) :
    headParted (Cert.ReferenceIdeal.Hand.scores x wR bR) = (fun _ => 1#1)
      ∧ headParted (Cert.ReferenceIdeal.Hand.scores x wP bP) = (fun _ => 1#1)
      ∧ headParted (Cert.ReferenceIdeal.Hand.scores x wL bL) = (fun _ => 1#1) := by
  rw [fn_eq] at h
  have e := fun j => both (congrFun h j)
  exact ⟨funext fun j => (both (e j).1).1, funext fun j => (both (e j).1).2, funext fun j => (e j).2⟩

end Cert.Pre_kth_apart.Hand

end
-- ==== Proof.Agree.lean ====
/- The kernel's results are the reference's, one head at a time, at the extended reals. -/
module

public import proofs.«01_k».proof.Proof.IdealValue
public import proofs.«01_k».proof.Proof.IdealRead
public import proofs.«01_k».proof.Proof.PreRead

@[expose] public section

noncomputable section

namespace Cert.KernelIdeal.Hand

open Idealize.ShloMosaic hiding ix1 ix2 ix3
open Idealize.ShloMosaic.ValueIdx
open Idealize.ShloMosaic.TcCoe Idealize.SL.Sem
open Cert.KernelIdeal.Gen TopK

/-! ## The logits -/

/-- A head's logits are the reference's when its row of biases is. -/
theorem logits_eq (x : FVec Ideal S128x2048 .f32) (w : FVec Ideal S2048x1000 .f32) (b : FVec Ideal S1x1x1000 .f32) (b' : FVec Ideal S1000 .f32)
    (hb : ∀ j : Fin 1000, b (ix3 (0 : Fin 1) (0 : Fin 1) j) = b' (ix1 j)) :
    logits x w b = Cert.ReferenceIdeal.Hand.scores x w b' := by
  unfold logits Cert.ReferenceIdeal.Hand.scores
  refine congrArg₂ addf (matmul_zero_eq_dotGeneral _ none x w) ?_
  funext i
  obtain ⟨r, j, rfl⟩ : ∃ (r : Fin 128) (j : Fin 1000), i = ix2 r j := ⟨i 0, i 1, ValueIdx.eq_ix2 i⟩
  refine (broadcastTo_apply _ broadcasts_S1x1000_S128x1000 (ix2 r j) (ix2 (0 : Fin 1) j) ?_).trans ?_
  · intro a
    match a with
    | ⟨0, _⟩ => rfl
    | ⟨1, _⟩ => rfl
  refine (shapeCast_apply b shapeCasts_S1x1x1000_S1x1000 (ix2 (0 : Fin 1) j) (ix3 (0 : Fin 1) (0 : Fin 1) j) ?_).trans ((hb j).trans ?_)
  · rw [Shape.rowMajor_val_three, Shape.rowMajor_val_two]
    show (0 * 1 + 0) * 1000 + j.val = 0 * 1000 + j.val
    omega
  refine (congrArg b' ?_)
  funext a
  match a with
  | ⟨0, _⟩ => rfl

/-- A row of the stacked biases. -/
theorem bias_row (b0 b1 b2 : FVec Ideal S1000 .f32) (j : Fin 1000) :
    let st := shapeCast S3x1x1000 (concatenate S3x1000 0
      [⟨S1x1000, (broadcastInDim S1x1000 ![1] bcast_S1000_S1x1000_1 b0 : FVec Ideal S1x1000 .f32)⟩,
       ⟨S1x1000, (broadcastInDim S1x1000 ![1] bcast_S1000_S1x1000_1 b1 : FVec Ideal S1x1000 .f32)⟩,
       ⟨S1x1000, (broadcastInDim S1x1000 ![1] bcast_S1000_S1x1000_1 b2 : FVec Ideal S1x1000 .f32)⟩]
      concatenates_S1x1000_S1x1000_S1x1000_S3x1000_d0) shapeCasts_S3x1000_S3x1x1000
    st (ix3 (0 : Fin 3) (0 : Fin 1) j) = b0 (ix1 j) ∧ st (ix3 (1 : Fin 3) (0 : Fin 1) j) = b1 (ix1 j)
      ∧ st (ix3 (2 : Fin 3) (0 : Fin 1) j) = b2 (ix1 j) := by
  intro st
  have e : ∀ h : Fin 3, st (ix3 h (0 : Fin 1) j) = concatenate S3x1000 0
      [⟨S1x1000, (broadcastInDim S1x1000 ![1] bcast_S1000_S1x1000_1 b0 : FVec Ideal S1x1000 .f32)⟩,
       ⟨S1x1000, (broadcastInDim S1x1000 ![1] bcast_S1000_S1x1000_1 b1 : FVec Ideal S1x1000 .f32)⟩,
       ⟨S1x1000, (broadcastInDim S1x1000 ![1] bcast_S1000_S1x1000_1 b2 : FVec Ideal S1x1000 .f32)⟩]
      concatenates_S1x1000_S1x1000_S1x1000_S3x1000_d0 (ix2 h j) := fun h =>
    shapeCast_apply _ shapeCasts_S3x1000_S3x1x1000 (ix3 h (0 : Fin 1) j) (ix2 h j) (by
      rw [Shape.rowMajor_val_three, Shape.rowMajor_val_two]
      show h.val * 1000 + j.val = (h.val * 1 + 0) * 1000 + j.val
      omega)
  have t : ∀ b : FVec Ideal S1000 .f32, (broadcastInDim S1x1000 ![1] bcast_S1000_S1x1000_1 b : FVec Ideal S1x1000 .f32) (ix2 (0 : Fin 1) j) = b (ix1 j) := fun b =>
    congrArg b (funext fun a => match a with | ⟨0, _⟩ => rfl)
  refine ⟨(e 0).trans ?_, (e 1).trans ?_, (e 2).trans ?_⟩
  · refine Eq.trans ?_ (t b0)
    pointwise
  · refine Eq.trans ?_ (t b1)
    pointwise
  · refine Eq.trans ?_ (t b2)
    pointwise

theorem biasOf_apply (b : Vec Ideal S3x1x1000 .f32) (h : Fin 3) (hb) (j : Fin 1000) :
    biasOf b h.val hb (ix3 (0 : Fin 1) (0 : Fin 1) j) = b (ix3 h (0 : Fin 1) j) :=
  congrArg b (funext fun a => Fin.ext (by
    match a with
    | ⟨0, _⟩ => show h.val + 0 * 1 = h.val; omega
    | ⟨1, _⟩ => rfl
    | ⟨2, _⟩ => show 0 + 1 * j.val = j.val; omega))

variable (m : (ℓ : Loc nD τ sig) → Buf (Elt Ideal) ℓ) (c : Dev nD)

theorem found0_eq : found0 m c t0_0 = Cert.ReferenceIdeal.Hand.scores (m (c.tc.loc main_arg0)) (m (c.tc.loc main_arg1)) (m (c.tc.loc main_arg2)) := by
  unfold found0
  rw [block_x, block_b, stacked, V_main_arg1]
  exact logits_eq _ _ _ _ fun j => (biasOf_apply _ 0 _ j).trans (bias_row _ _ _ j).1

theorem found1_eq : found1 m c t0_0 = Cert.ReferenceIdeal.Hand.scores (m (c.tc.loc main_arg0)) (m (c.tc.loc main_arg3)) (m (c.tc.loc main_arg4)) := by
  unfold found1
  rw [block_x, block_b, stacked, V_main_arg3]
  exact logits_eq _ _ _ _ fun j => (biasOf_apply _ 1 _ j).trans (bias_row _ _ _ j).2.1

theorem found2_eq : found2 m c t0_0 = Cert.ReferenceIdeal.Hand.scores (m (c.tc.loc main_arg0)) (m (c.tc.loc main_arg5)) (m (c.tc.loc main_arg6)) := by
  unfold found2
  rw [block_x, block_b, stacked, V_main_arg5]
  exact logits_eq _ _ _ _ fun j => (biasOf_apply _ 2 _ j).trans (bias_row _ _ _ j).2.2

/-! ## The noise -/

/-- A head's slab of the noise is the reference's share of it. -/
theorem noiseOf_eq (g : Vec Ideal S3x128x1000 .f32) (h : Fin 3) (hb) (hs) :
    noiseOf g h.val hb = Cert.ReferenceIdeal.Hand.share g ![h.val, 0, 0] hs := by
  unfold noiseOf Cert.ReferenceIdeal.Hand.share
  congr 1
  funext j
  refine ((extractStridedSlice_apply (![h.val, 0, 0] : Fin 3 → ℕ) g hs j _ ?_).symm)
  intro a
  match a with
  | ⟨0, _⟩ => show h.val + 1 * (j 0).val = h.val + (j 0).val; omega
  | ⟨1, _⟩ => show 0 + 1 * (j 1).val = 0 + (j 1).val; omega
  | ⟨2, _⟩ => show 0 + 1 * (j 2).val = 0 + (j 2).val; omega

theorem drawn0_eq : drawn0 m c = Cert.ReferenceIdeal.Hand.share (m (c.tc.loc main_arg7)) ![0, 0, 0] Cert.ReferenceIdeal.Gen.slices_S3x128x1000_S1x128x1000_0_0_0 := by
  unfold drawn0
  rw [V_main_arg7]
  exact noiseOf_eq _ 0 _ _

theorem drawn1_eq : drawn1 m c = Cert.ReferenceIdeal.Hand.share (m (c.tc.loc main_arg7)) ![1, 0, 0] Cert.ReferenceIdeal.Gen.slices_S3x128x1000_S1x128x1000_1_0_0 := by
  unfold drawn1
  rw [V_main_arg7]
  exact noiseOf_eq _ 1 _ _

theorem drawn2_eq : drawn2 m c = Cert.ReferenceIdeal.Hand.share (m (c.tc.loc main_arg7)) ![2, 0, 0] Cert.ReferenceIdeal.Gen.slices_S3x128x1000_S1x128x1000_2_0_0 := by
  unfold drawn2
  rw [V_main_arg7]
  exact noiseOf_eq _ 2 _ _

/-! ## A head's results -/

/-- Where every row's hundredth greatest logit and the next one lie apart, the probabilities are the reference's. -/
theorem probs_agree (l : FVec Ideal S128x1000 .f32) (h : Cert.Pre_kth_apart.Hand.headParted l = fun _ => 1#1) :
    probs l = Cert.ReferenceIdeal.Hand.softmax (Cert.ReferenceIdeal.Hand.tempered (Cert.ReferenceIdeal.Hand.sifted l)) := by
  rw [Cert.ReferenceIdeal.Hand.tempered_eq]
  funext i
  obtain ⟨r, j, rfl⟩ : ∃ (r : Fin 128) (j : Fin 1000), i = ix2 r j := ⟨i 0, i 1, ValueIdx.eq_ix2 i⟩
  exact (probs_eq l r j).trans (Cert.ReferenceIdeal.Hand.softmax_eq r _ _
    (Cert.ReferenceIdeal.Hand.sifted_eq l r (Cert.Pre_kth_apart.Hand.head_apart l h r)) j).symm

/-- And so are the samples. -/
theorem sample_agree (l g : FVec Ideal S128x1000 .f32) (h : Cert.Pre_kth_apart.Hand.headParted l = fun _ => 1#1) :
    shapeCast S128 (sample l g) shapeCasts_S128x1_S128 = Cert.ReferenceIdeal.Hand.picked l g := by
  funext i
  obtain ⟨r, rfl⟩ : ∃ r : Fin 128, i = ix1 r := ⟨i 0, ValueIdx.eq_ix1 i⟩
  obtain ⟨k, hk, e⟩ := Cert.ReferenceIdeal.Hand.picked_eq l r g (Cert.Pre_kth_apart.Hand.head_apart l h r)
  refine (shapeCast_apply (sample l g) shapeCasts_S128x1_S128 (ix1 r) (ix2 r (0 : Fin 1)) ?_).trans ((sample_eq l r g k hk).trans e.symm)
  rw [Shape.rowMajor_val_two, Shape.rowMajor_val_one]
  show r.val * 1 + 0 = r.val
  omega

end Cert.KernelIdeal.Hand

end
-- ==== Proof.lean ====
/- The proof of the certificate's claim: the two readings of the kernel and the reference run and leave everything as
   it was, and at the extended reals the kernel's six results are the reference's. -/
module

public import proofs.«01_k».proof.Defs
public import proofs.«01_k».proof.Proof.KernelFrame
public import proofs.«01_k».proof.Proof.Agree

@[expose] public section

noncomputable section

namespace Cert.Proof

open Idealize.ShloMosaic Idealize.SL.Sem

/-- The kernel at the extended reals leaves its arguments and every semaphore as they were. -/
theorem ideal_frame : Cert.quiescent_KernelIdeal (hKernelIdeal := Cert.KernelIdeal.Gen.facts) := fun m ρ _ =>
  (θ_run _ _ _).mono (fun _ h => ⟨fun c => (h.1 c).2.2.2.2.2.2, h.2⟩) (Cert.KernelIdeal.Hand.run_values m ρ)

/-- So does the reference. -/
theorem reference_frame : Cert.quiescent_ReferenceIdeal (hReferenceIdeal := Cert.ReferenceIdeal.Gen.facts) := fun m ρ _ =>
  (θ_run _ _ _).mono (fun _ h => ⟨fun c => (h.1 c).2.2.2.2.2.2, h.2⟩) (Cert.ReferenceIdeal.Hand.run_values m ρ)

/-- The three heads' probabilities and samples are the same on both sides. -/
theorem same_results : Cert.algebraic_KernelIdeal_ReferenceIdeal_pre_kth_apart (hKernelIdeal := Cert.KernelIdeal.Gen.facts)
    (hReferenceIdeal := Cert.ReferenceIdeal.Gen.facts) (hPre_kth_apart := Cert.Pre_kth_apart.Gen.facts) := by
  intro m ρ m' ρ' hpre hsame
  refine ⟨_, _, _, _, _, _, (θ_run _ _ _).mono (fun _ h => h.1) (Cert.KernelIdeal.Hand.run_values m ρ),
    (θ_run _ _ _).mono (fun _ h c => ?_) (Cert.ReferenceIdeal.Hand.run_values m' ρ')⟩
  obtain ⟨p0, p1, p2, s0, s1, s2, kept⟩ := h.1 c
  obtain ⟨a0, a1, a2, a3, a4, a5, a6, a7⟩ := hsame c
  obtain ⟨h0, h1, h2⟩ := Cert.Pre_kth_apart.Hand.heads _ _ _ _ _ _ _ _ (hpre c)
  rw [a0, a1, a2] at p0
  rw [a0, a3, a4] at p1
  rw [a0, a5, a6] at p2
  rw [a0, a1, a2, a7] at s0
  rw [a0, a3, a4, a7] at s1
  rw [a0, a5, a6, a7] at s2
  refine ⟨p0.trans ?_, p1.trans ?_, p2.trans ?_, s0.trans ?_, s1.trans ?_, s2.trans ?_, kept⟩
  · rw [Cert.KernelIdeal.Hand.found0_eq]
    exact (Cert.KernelIdeal.Hand.probs_agree _ h0).symm
  · rw [Cert.KernelIdeal.Hand.found1_eq]
    exact (Cert.KernelIdeal.Hand.probs_agree _ h1).symm
  · rw [Cert.KernelIdeal.Hand.found2_eq]
    exact (Cert.KernelIdeal.Hand.probs_agree _ h2).symm
  · rw [Cert.KernelIdeal.Hand.found0_eq, Cert.KernelIdeal.Hand.drawn0_eq]
    exact (Cert.KernelIdeal.Hand.sample_agree _ _ h0).symm
  · rw [Cert.KernelIdeal.Hand.found1_eq, Cert.KernelIdeal.Hand.drawn1_eq]
    exact (Cert.KernelIdeal.Hand.sample_agree _ _ h1).symm
  · rw [Cert.KernelIdeal.Hand.found2_eq, Cert.KernelIdeal.Hand.drawn2_eq]
    exact (Cert.KernelIdeal.Hand.sample_agree _ _ h2).symm

theorem claim : Cert.Claim := ⟨Cert.Kernel.Gen.facts, Cert.KernelIdeal.Gen.facts, Cert.ReferenceIdeal.Gen.facts,
  Cert.Pre_kth_apart.Gen.facts, fun m ρ _ => Cert.Kernel.Hand.frame m ρ, ideal_frame, fun m ρ _ => ideal_frame m ρ trivial,
  reference_frame, fun m ρ _ => reference_frame m ρ trivial, trivial, same_results⟩

end Cert.Proof

end
